-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x4096 : Shape := ⟨3, ![2, 512, 4096]⟩
abbrev S2x512x1 : Shape := ⟨3, ![2, 512, 1]⟩
abbrev S4096x5120 : Shape := ⟨2, ![4096, 5120]⟩
abbrev S5120 : Shape := ⟨1, ![5120]⟩
abbrev S2x512x5120 : Shape := ⟨3, ![2, 512, 5120]⟩
abbrev S2 : Shape := ⟨1, ![2]⟩
abbrev S1024x4096 : Shape := ⟨2, ![1024, 4096]⟩
abbrev S1024x1 : Shape := ⟨2, ![1024, 1]⟩
abbrev S1x5120 : Shape := ⟨2, ![1, 5120]⟩
abbrev S1024x5120 : Shape := ⟨2, ![1024, 5120]⟩
abbrev S4096x512 : Shape := ⟨2, ![4096, 512]⟩
abbrev S1x512 : Shape := ⟨2, ![1, 512]⟩
abbrev S1024x512 : Shape := ⟨2, ![1024, 512]⟩
abbrev S10x1024x512 : Shape := ⟨3, ![10, 1024, 512]⟩
abbrev S1024x128 : Shape := ⟨2, ![1024, 128]⟩
abbrev S128x4096 : Shape := ⟨2, ![128, 4096]⟩
abbrev S128x512 : Shape := ⟨2, ![128, 512]⟩
abbrev S128x1 : Shape := ⟨2, ![128, 1]⟩
abbrev S1 : Shape := ⟨1, ![1]⟩
abbrev S1x128x512 : Shape := ⟨3, ![1, 128, 512]⟩
abbrev S128x4x128 : Shape := ⟨3, ![128, 4, 128]⟩
abbrev S128x128 : Shape := ⟨2, ![128, 128]⟩
abbrev S32x128 : Shape := ⟨2, ![32, 128]⟩
abbrev S32 : Shape := ⟨1, ![32]⟩
abbrev S32x1 : Shape := ⟨2, ![32, 1]⟩
abbrev S1x32x512 : Shape := ⟨3, ![1, 32, 512]⟩
abbrev S32x512 : Shape := ⟨2, ![32, 512]⟩

abbrev nBuf : Space → Nat
  | .hbm => 14
  | .vmem => 15
  | .smem => 1
  | _ => 0

abbrev bufTy : (tb : Table) → Fin (tcTables nBuf tb) → BufTy
  | .hbm, ⟨0, _⟩ => ⟨S2x512x4096, .fp8e4m3⟩
  | .hbm, ⟨1, _⟩ => ⟨S2x512x1, .f32⟩
  | .hbm, ⟨2, _⟩ => ⟨S4096x5120, .fp8e4m3⟩
  | .hbm, ⟨3, _⟩ => ⟨S5120, .f32⟩
  | .hbm, ⟨4, _⟩ => ⟨S2x512x5120, .bf16⟩
  | .hbm, ⟨5, _⟩ => ⟨S5120, .f32⟩
  | .hbm, ⟨6, _⟩ => ⟨S1024x4096, .fp8e4m3⟩
  | .hbm, ⟨7, _⟩ => ⟨S1024x1, .f32⟩
  | .hbm, ⟨8, _⟩ => ⟨S1x5120, .f32⟩
  | .hbm, ⟨9, _⟩ => ⟨S1024x5120, .bf16⟩
  | .hbm, ⟨10, _⟩ => ⟨S1x5120, .f32⟩
  | .hbm, ⟨11, _⟩ => ⟨S1024x5120, .bf16⟩
  | .hbm, ⟨12, _⟩ => ⟨S1024x5120, .fp8e4m3⟩
  | .hbm, ⟨13, _⟩ => ⟨S1024x1, .f32⟩
  | .local _ .vmem, ⟨0, _⟩ => ⟨S1024x4096, .fp8e4m3⟩
  | .local _ .vmem, ⟨1, _⟩ => ⟨S1024x1, .f32⟩
  | .local _ .vmem, ⟨2, _⟩ => ⟨S4096x512, .fp8e4m3⟩
  | .local _ .vmem, ⟨3, _⟩ => ⟨S4096x512, .fp8e4m3⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1x5120, .f32⟩
  | .local _ .vmem, ⟨9, _⟩ => ⟨S1024x512, .bf16⟩
  | .local _ .vmem, ⟨10, _⟩ => ⟨S1024x512, .bf16⟩
  | .local _ .vmem, ⟨11, _⟩ => ⟨S1024x5120, .fp8e4m3⟩
  | .local _ .vmem, ⟨12, _⟩ => ⟨S1024x1, .f32⟩
  | .local _ .vmem, ⟨13, _⟩ => ⟨S10x1024x512, .bf16⟩
  | .local _ .vmem, ⟨14, _⟩ => ⟨S1024x128, .f32⟩
  | .local _ .smem, ⟨0, _⟩ => ⟨S2, .i32⟩
  | _, _ => ⟨S2x512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![10], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v26 : Index := Scalar.indexCast arg0
  let c0_13 : Index := 0#32
  let c0_14 : Index := 0#32
  ![v26.toNat, 0, 0]
def k0_off2 (i : grid0.Coords) : Fin 3 → Nat :=
  let arg0 : BitVec 32 := BitVec.ofNat 32 (i 0).val
  let v66 : Index := Scalar.indexCast arg0
  let c128_34 : Index := 128#32
  let c0_35 : Index := 0#32
  ![v66.toNat, 128, 0]
def k0_off3 (i : grid0.Coords) : Fin 3 → Nat :=
  let arg0 : BitVec 32 := BitVec.ofNat 32 (i 0).val
  let v106 : Index := Scalar.indexCast arg0
  let c256_55 : Index := 256#32
  let c0_56 : Index := 0#32
  ![v106.toNat, 256, 0]
def k0_off4 (i : grid0.Coords) : Fin 3 → Nat :=
  let arg0 : BitVec 32 := BitVec.ofNat 32 (i 0).val
  let v146 : Index := Scalar.indexCast arg0
  let c384_76 : Index := 384#32
  let c0_77 : Index := 0#32
  ![v146.toNat, 384, 0]
def k0_off5 (i : grid0.Coords) : Fin 3 → Nat :=
  let arg0 : BitVec 32 := BitVec.ofNat 32 (i 0).val
  let v186 : Index := Scalar.indexCast arg0
  let c512_97 : Index := 512#32
  let c0_98 : Index := 0#32
  ![v186.toNat, 512, 0]
def k0_off6 (i : grid0.Coords) : Fin 3 → Nat :=
  let arg0 : BitVec 32 := BitVec.ofNat 32 (i 0).val
  let v226 : Index := Scalar.indexCast arg0
  let c640_119 : Index := 640#32
  let c0_120 : Index := 0#32
  ![v226.toNat, 640, 0]
def k0_off7 (i : grid0.Coords) : Fin 3 → Nat :=
  let arg0 : BitVec 32 := BitVec.ofNat 32 (i 0).val
  let v266 : Index := Scalar.indexCast arg0
  let c768_141 : Index := 768#32
  let c0_142 : Index := 0#32
  ![v266.toNat, 768, 0]
def k0_off8 (i : grid0.Coords) : Fin 3 → Nat :=
  let arg0 : BitVec 32 := BitVec.ofNat 32 (i 0).val
  let v306 : Index := Scalar.indexCast arg0
  let c896_163 : Index := 896#32
  let c0_164 : Index := 0#32
  ![v306.toNat, 896, 0]
def k0_cond17 (i : grid0.Coords) : BitVec 1 :=
  let arg0 : BitVec 32 := BitVec.ofNat 32 (i 0).val
  let c9_i32 : BitVec 32 := 9#32
  let v320 : BitVec 1 := Scalar.cmpi .eq arg0 c9_i32
  let v321 : BitVec 32 := Scalar.extui v320
  let c0_i32_170 : BitVec 32 := 0#32
  let v322 : BitVec 1 := Scalar.cmpi .ne v321 c0_i32_170
  v322

@[reducible] def k0_t1_loop : Scf.Loop 32 :=
  let c0_i32_171 : BitVec 32 := 0#32
  let c32_i32 : BitVec 32 := 32#32
  let v323 : BitVec 32 := Scalar.addi c0_i32_171 c32_i32
  let c1_i32 : BitVec 32 := 1#32
  ⟨c0_i32_171, v323, c1_i32⟩
def k0_mult1 (k0_t1 : Fin k0_t1_loop.trips) : BitVec 32 :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  v325
def k0_off9 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v327 : Index := Scalar.indexCast v326
  let c0_175 : Index := 0#32
  ![v327.toNat, 0]
def k0_off10 (k0_t1 : Fin k0_t1_loop.trips) : Fin 3 → Nat :=
  let c0_180 : Index := 0#32
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v337 : Index := Scalar.indexCast v326
  let c0_181 : Index := 0#32
  ![0, v337.toNat, 0]
def k0_off11 (k0_t1 : Fin k0_t1_loop.trips) : Fin 3 → Nat :=
  let c1_185 : Index := 1#32
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v351 : Index := Scalar.indexCast v326
  let c0_186 : Index := 0#32
  ![1, v351.toNat, 0]
def k0_off12 (k0_t1 : Fin k0_t1_loop.trips) : Fin 3 → Nat :=
  let c2 : Index := 2#32
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v365 : Index := Scalar.indexCast v326
  let c0_190 : Index := 0#32
  ![2, v365.toNat, 0]
def k0_off13 (k0_t1 : Fin k0_t1_loop.trips) : Fin 3 → Nat :=
  let c3 : Index := 3#32
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v379 : Index := Scalar.indexCast v326
  let c0_193 : Index := 0#32
  ![3, v379.toNat, 0]
def k0_off14 (k0_t1 : Fin k0_t1_loop.trips) : Fin 3 → Nat :=
  let c4 : Index := 4#32
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v393 : Index := Scalar.indexCast v326
  let c0_196 : Index := 0#32
  ![4, v393.toNat, 0]
def k0_off15 (k0_t1 : Fin k0_t1_loop.trips) : Fin 3 → Nat :=
  let c5 : Index := 5#32
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v407 : Index := Scalar.indexCast v326
  let c0_199 : Index := 0#32
  ![5, v407.toNat, 0]
def k0_off16 (k0_t1 : Fin k0_t1_loop.trips) : Fin 3 → Nat :=
  let c6 : Index := 6#32
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v421 : Index := Scalar.indexCast v326
  let c0_202 : Index := 0#32
  ![6, v421.toNat, 0]
def k0_off17 (k0_t1 : Fin k0_t1_loop.trips) : Fin 3 → Nat :=
  let c7 : Index := 7#32
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v435 : Index := Scalar.indexCast v326
  let c0_205 : Index := 0#32
  ![7, v435.toNat, 0]
def k0_off18 (k0_t1 : Fin k0_t1_loop.trips) : Fin 3 → Nat :=
  let c8 : Index := 8#32
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v449 : Index := Scalar.indexCast v326
  let c0_208 : Index := 0#32
  ![8, v449.toNat, 0]
def k0_off19 (k0_t1 : Fin k0_t1_loop.trips) : Fin 3 → Nat :=
  let c9 : Index := 9#32
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v463 : Index := Scalar.indexCast v326
  let c0_211 : Index := 0#32
  ![9, v463.toNat, 0]
def k0_off20 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v601 : Index := Scalar.indexCast v326
  let c0_252 : Index := 0#32
  ![v601.toNat, 0]
def k0_off21 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v628 : Index := Scalar.indexCast v326
  let c0_262 : Index := 0#32
  ![v628.toNat, 0]
def k0_off22 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v647 : Index := Scalar.indexCast v326
  let c512_269 : Index := 512#32
  ![v647.toNat, 512]
def k0_off23 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v666 : Index := Scalar.indexCast v326
  let c1024_276 : Index := 1024#32
  ![v666.toNat, 1024]
def k0_off24 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v685 : Index := Scalar.indexCast v326
  let c1536_283 : Index := 1536#32
  ![v685.toNat, 1536]
def k0_off25 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v704 : Index := Scalar.indexCast v326
  let c2048_290 : Index := 2048#32
  ![v704.toNat, 2048]
def k0_off26 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v723 : Index := Scalar.indexCast v326
  let c2560_297 : Index := 2560#32
  ![v723.toNat, 2560]
def k0_off27 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v742 : Index := Scalar.indexCast v326
  let c3072_304 : Index := 3072#32
  ![v742.toNat, 3072]
def k0_off28 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v761 : Index := Scalar.indexCast v326
  let c3584_311 : Index := 3584#32
  ![v761.toNat, 3584]
def k0_off29 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v780 : Index := Scalar.indexCast v326
  let c4096_318 : Index := 4096#32
  ![v780.toNat, 4096]
def k0_off30 (k0_t1 : Fin k0_t1_loop.trips) : Fin 2 → Nat :=
  let c0_i32_174 : BitVec 32 := 0#32
  let c0_i32_171 : BitVec 32 := 0#32
  let c1_i32 : BitVec 32 := 1#32
  let arg13 : BitVec 32 := Scf.iv c0_i32_171 c1_i32 k0_t1
  let c32_i32_173 : BitVec 32 := 32#32
  let v324 : BitVec 32 := Scalar.muli arg13 c32_i32_173
  let v325 : BitVec 32 := Scalar.addi c0_i32_174 v324
  let v326 : BitVec 32 := v325
  let v799 : Index := Scalar.indexCast v326
  let c4608_325 : Index := 4608#32
  ![v799.toNat, 4608]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x512x4096 : Shape := ⟨3, ![2, 512, 4096]⟩
abbrev S2x512x1 : Shape := ⟨3, ![2, 512, 1]⟩
abbrev S4096x5120 : Shape := ⟨2, ![4096, 5120]⟩
abbrev S5120 : Shape := ⟨1, ![5120]⟩
abbrev S2x512x5120 : Shape := ⟨3, ![2, 512, 5120]⟩
abbrev S2 : Shape := ⟨1, ![2]⟩
abbrev S1024x4096 : Shape := ⟨2, ![1024, 4096]⟩
abbrev S1024x1 : Shape := ⟨2, ![1024, 1]⟩
abbrev S1x5120 : Shape := ⟨2, ![1, 5120]⟩
abbrev S1024x5120 : Shape := ⟨2, ![1024, 5120]⟩
abbrev S1 : Shape := ⟨1, ![1]⟩
abbrev S1024 : Shape := ⟨1, ![1024]⟩
abbrev S1024x246 : Shape := ⟨2, ![1024, 246]⟩

abbrev nBuf : Space → Nat
  | .hbm => 15
  | .vmem => 9
  | .smem => 1
  | _ => 0

abbrev bufTy : (tb : Table) → Fin (tcTables nBuf tb) → BufTy
  | .hbm, ⟨0, _⟩ => ⟨S2x512x4096, .fp8e4m3⟩
  | .hbm, ⟨1, _⟩ => ⟨S2x512x1, .f32⟩
  | .hbm, ⟨2, _⟩ => ⟨S4096x5120, .fp8e4m3⟩
  | .hbm, ⟨3, _⟩ => ⟨S5120, .f32⟩
  | .hbm, ⟨4, _⟩ => ⟨S2x512x5120, .bf16⟩
  | .hbm, ⟨5, _⟩ => ⟨S5120, .f32⟩
  | .hbm, ⟨6, _⟩ => ⟨S2, .i32⟩
  | .hbm, ⟨7, _⟩ => ⟨S1024x4096, .fp8e4m3⟩
  | .hbm, ⟨8, _⟩ => ⟨S1024x1, .f32⟩
  | .hbm, ⟨9, _⟩ => ⟨S1x5120, .f32⟩
  | .hbm, ⟨10, _⟩ => ⟨S1024x5120, .bf16⟩
  | .hbm, ⟨11, _⟩ => ⟨S1x5120, .f32⟩
  | .hbm, ⟨12, _⟩ => ⟨S1024x5120, .bf16⟩
  | .hbm, ⟨13, _⟩ => ⟨S1024x5120, .fp8e4m3⟩
  | .hbm, ⟨14, _⟩ => ⟨S1024x1, .f32⟩
  | .local _ .vmem, ⟨0, _⟩ => ⟨S1024x4096, .fp8e4m3⟩
  | .local _ .vmem, ⟨1, _⟩ => ⟨S1024x1, .f32⟩
  | .local _ .vmem, ⟨2, _⟩ => ⟨S4096x5120, .fp8e4m3⟩
  | .local _ .vmem, ⟨3, _⟩ => ⟨S1x5120, .f32⟩
  | .local _ .vmem, ⟨4, _⟩ => ⟨S1024x5120, .bf16⟩
  | .local _ .vmem, ⟨5, _⟩ => ⟨S1x5120, .f32⟩
  | .local _ .vmem, ⟨6, _⟩ => ⟨S1024x5120, .bf16⟩
  | .local _ .vmem, ⟨7, _⟩ => ⟨S1024x5120, .fp8e4m3⟩
  | .local _ .vmem, ⟨8, _⟩ => ⟨S1024x1, .f32⟩
  | .local _ .smem, ⟨0, _⟩ => ⟨S2, .i32⟩
  | _, _ => ⟨S2x512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelKit.lean ====
/-
  `@main` up to the kernel launch: the five host reshapes, and what each buffer of the device holds when the launch is
  entered (`V`). No host operation writes an argument, so the arguments are as launched there.
-/
module

public import proofs.«01_k».proof.Proof.Gen.Kernel.Launch
public import Idealize.ShloMosaic.Lib.Pipeline.FrameBody
public import Idealize.ShloMosaic.Lib.Pipeline.ArrRel
public import Idealize.ShloMosaic.Lib.Pipeline.Value

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-- What device `c`'s buffer `b` holds when the launch is entered: after the host reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The region is entered with every buffer at `V`. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- No host operation writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-- No host operation writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-- The grid's coordinate at point `t` is `t`. -/
theorem coords_val (t : Fin grid0.N) : (grid0.coords t 0).val = t.val := by
  rcases fin_N0 t with h | h | h | h | h | h | h | h | h | h <;> subst h <;> decide

/-- The table of lengths as the launch finds it. -/
def adm : (p : Fin 1) → (pcfgs (F := F) p).Adm := fun p =>
  ⟨fun k => m (((0 : Dev nD) : Thread nD τ).loc ((pcfgs (F := F) p).pre.ref k)), trivial⟩

end Cert.Kernel.Run

end
-- ==== Proof.KernelFrame.lean ====
/-
  The launch over what each point leaves. `Leaves` says, point by point, what is known of the two scratch buffers before
  a point and of the three output windows after it; `PointRun` is the obligation that one run of the body at a point
  takes the first to the second. From that obligation the whole run follows: every execution terminates, the buffers
  no window writes end as the launch found them, and each output array ends at write-backs of contents that `Leaves`
  allows.
-/
module

public import proofs.«01_k».proof.Proof.KernelKit
public import Idealize.ShloMosaic.Lib.Tactic

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- What is known of the scratch buffers before point `n` (`scratch`) and of the output windows after it. -/
structure Leaves (F : FTy → Type) [FloatOps F] where
  scratch : ℕ → (S10x1024x512.Idx → Elt F .bf16) → (S1024x128.Idx → Elt F .f32) → Prop
  h : ℕ → (S1024x512.Idx → Elt F .bf16) → Prop
  n : ℕ → (S1024x5120.Idx → Elt F .fp8e4m3) → Prop
  ns : ℕ → (S1024x1.Idx → Elt F .f32) → Prop

variable (m : (ℓ : Loc nD τ sig) → Buf (Elt F) ℓ)

/-- The table of lengths. -/
abbrev lens (c : Dev nD) : S2.Idx → Elt F .i32 := m ((c : Thread nD τ).loc main_arg6)

/-- Input window `w`'s block at point `t`, read off its array as the launch finds it. -/
def iblk (c : Dev nD) (w : Fin 9) (t : Fin grid0.N) :
    ((win0 (adm m 0) w).xblock (grid0.coords t)).Idx → Elt F (win0 (adm m 0) w).elt :=
  ((win0 (adm m 0) w).blk t).view.read (Elt F) (V m c (Pipeline.arrRef spec0 w))
abbrev xBlk (c : Dev nD) (t : Fin grid0.N) : S1024x4096.Idx → Elt F .fp8e4m3 := iblk m c 0 t
abbrev xsBlk (c : Dev nD) (t : Fin grid0.N) : S1024x1.Idx → Elt F .f32 := iblk m c 1 t
abbrev wBlk (c : Dev nD) (t : Fin grid0.N) : S4096x512.Idx → Elt F .fp8e4m3 := iblk m c 2 t
abbrev wsBlk (c : Dev nD) (t : Fin grid0.N) : S1x512.Idx → Elt F .f32 := iblk m c 3 t
abbrev resBlk (c : Dev nD) (t : Fin grid0.N) : S1024x512.Idx → Elt F .bf16 := iblk m c 4 t
abbrev gBlk (c : Dev nD) (t : Fin grid0.N) : S1x5120.Idx → Elt F .f32 := iblk m c 5 t

/-- One run of the body at a point, on any whole memrefs: from the scratch contents `Leaves` allows before the point to
    contents it allows after, with the inputs' blocks in place. -/
def PointRun (P : Leaves F) : Prop :=
  ∀ (c : Dev nD) (t : Fin grid0.N)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x8 : S1024x512.Idx → Elt F .bf16) (x9 : S1024x5120.Idx → Elt F .fp8e4m3) (x10 : S1024x1.Idx → Elt F .f32) (x11 : S10x1024x512.Idx → Elt F .bf16) (x12 : S1024x128.Idx → Elt F .f32), P.scratch t.val x11 x12 →
    ((iprop(owns (c : Thread nD τ) arg1 fullShare.right (lens m c) ∗ owns (c : Thread nD τ) arg2 fullShare (xBlk m c t) ∗ owns (c : Thread nD τ) arg3 fullShare (xsBlk m c t) ∗ owns (c : Thread nD τ) arg4 fullShare (wBlk m c t) ∗ owns (c : Thread nD τ) arg5 fullShare (wsBlk m c t) ∗ owns (c : Thread nD τ) arg6 fullShare (resBlk m c t) ∗ owns (c : Thread nD τ) arg7 fullShare (gBlk m c t) ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) Set.univ (cc0_proj_rmsnorm_quant (grid0.coords t) arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', ⌜P.h t.val x8' ∧ P.n t.val x9' ∧ P.ns t.val x10' ∧ P.scratch (t.val + 1) x11' x12'⌝ ∗
            owns (c : Thread nD τ) arg1 fullShare.right (lens m c) ∗ owns (c : Thread nD τ) arg2 fullShare (xBlk m c t) ∗ owns (c : Thread nD τ) arg3 fullShare (xsBlk m c t) ∗ owns (c : Thread nD τ) arg4 fullShare (wBlk m c t) ∗ owns (c : Thread nD τ) arg5 fullShare (wsBlk m c t) ∗ owns (c : Thread nD τ) arg6 fullShare (resBlk m c t) ∗ owns (c : Thread nD τ) arg7 fullShare (gBlk m c t) ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12')))

/-- The invariant before point `n`: the random state, the table's half, and the two scratch buffers. -/
def Φ (P : Leaves F) (c : Dev nD) (n : ℕ) : sProp 𝕄 :=
  iprop((∃ r, prngReg c r) ∗ owns (c : Thread nD τ) (Memref.whole main_arg6) fullShare.right (lens m c)
    ∗ ∃ x11 x12, ⌜P.scratch n x11 x12⌝ ∗ owns (c : Thread nD τ) (Memref.whole cc0_scratch0) fullShare x11
        ∗ owns (c : Thread nD τ) (Memref.whole cc0_scratch1) fullShare x12)

/-- What the body may leave in a window's buffer: an input as found, an output as `Leaves` says. -/
def after (P : Leaves F) : (w : Fin 9) → Fin grid0.N →
    (Y X : (win0 (adm m 0) w).block.Idx → Elt F (win0 (adm m 0) w).elt) → Prop
  | 0, _, Y, X => X = Y
  | 1, _, Y, X => X = Y
  | 2, _, Y, X => X = Y
  | 3, _, Y, X => X = Y
  | 4, _, Y, X => X = Y
  | 5, _, Y, X => X = Y
  | 6, t, _, X => P.h t.val X
  | 7, t, _, X => P.n t.val X
  | 8, t, _, X => P.ns t.val X

/-- The proof data of the launch. -/
def rdat (P : Leaves F) (c : Dev nD) : RDat τ (Elt F) Unit ℕ (UR sig nD τ) ℕ (cfg0 (adm m 0)) c where
  A w := V m c (Pipeline.arrRef spec0 w)
  after := after m P
  Φ t := Φ m P c t.val
  q := fun _ => fullShare
  owed := fun _ => 0

/-- Input window 0 is found at its block. -/
theorem finds0 (P : Leaves F) (c : Dev nD) (t : Fin grid0.N) (Y) (h : (rdat m P c).Finds 0 t Y) : Y = iblk m c 0 t := by
  obtain ⟨d, rfl⟩ := (rdat m P c).finds_in_eq_fetched 0 rfl (fun _ _ _ => rfl) (fun _ _ _ h => h) t Y h
  rfl

/-- Input window 1 is found at its block. -/
theorem finds1 (P : Leaves F) (c : Dev nD) (t : Fin grid0.N) (Y) (h : (rdat m P c).Finds 1 t Y) : Y = iblk m c 1 t := by
  obtain ⟨d, rfl⟩ := (rdat m P c).finds_in_eq_fetched 1 rfl (fun _ _ _ => rfl) (fun _ _ _ h => h) t Y h
  rfl

/-- Input window 2 is found at its block. -/
theorem finds2 (P : Leaves F) (c : Dev nD) (t : Fin grid0.N) (Y) (h : (rdat m P c).Finds 2 t Y) : Y = iblk m c 2 t := by
  obtain ⟨d, rfl⟩ := (rdat m P c).finds_in_eq_fetched 2 rfl (fun _ _ _ => rfl) (fun _ _ _ h => h) t Y h
  rfl

/-- Input window 3 is found at its block. -/
theorem finds3 (P : Leaves F) (c : Dev nD) (t : Fin grid0.N) (Y) (h : (rdat m P c).Finds 3 t Y) : Y = iblk m c 3 t := by
  obtain ⟨d, rfl⟩ := (rdat m P c).finds_in_eq_fetched 3 rfl (fun _ _ _ => rfl) (fun _ _ _ h => h) t Y h
  rfl

/-- Input window 4 is found at its block. -/
theorem finds4 (P : Leaves F) (c : Dev nD) (t : Fin grid0.N) (Y) (h : (rdat m P c).Finds 4 t Y) : Y = iblk m c 4 t := by
  obtain ⟨d, rfl⟩ := (rdat m P c).finds_in_eq_fetched 4 rfl (fun _ _ _ => rfl) (fun _ _ _ h => h) t Y h
  rfl

/-- Input window 5 is found at its block. -/
theorem finds5 (P : Leaves F) (c : Dev nD) (t : Fin grid0.N) (Y) (h : (rdat m P c).Finds 5 t Y) : Y = iblk m c 5 t := by
  obtain ⟨d, rfl⟩ := (rdat m P c).finds_in_eq_fetched 5 rfl (fun _ _ _ => rfl) (fun _ _ _ h => h) t Y h
  rfl

/-- The body obligation of the launch, from the run of a point. -/
theorem body (P : Leaves F) (hP : PointRun m P) (c : Dev nD) : (rdat m P c).BodyObligation (defs₀ (F := F)) Variants.none () Set.univ := by
  intro t Y hY
  have e0 := finds0 m P c t _ (hY 0)
  have e1 := finds1 m P c t _ (hY 1)
  have e2 := finds2 m P c t _ (hY 2)
  have e3 := finds3 m P c t _ (hY 3)
  have e4 := finds4 m P c t _ (hY 4)
  have e5 := finds5 m P c t _ (hY 5)
  rw [bigSep_W0, bigSep_W0, e0, e1, e2, e3, e4, e5]
  change iprop(Φ m P c t.val ∗ _ ∗ _) ⊢ wp _ _ _ _ (fun _ => iprop(Φ m P c (t.val + 1) ∗ _ ∗ _))
  unfold Φ
  iintro ⟨⟨Hp, H1, %x11, %x12, %hS, H11, H12⟩, Ho, H2, H3, H4, H5, H6, H7, H8, H9, H10⟩
  iapply (wp_wand_r Idealize.ShloMosaic.frame (wpE (defs₀ (F := F)) Variants.none (c : Thread nD τ) none) Set.univ)
  isplitl [H1 H2 H3 H4 H5 H6 H7 H8 H9 H10 H11 H12]
  · iapply (hP c t (Memref.whole main_arg6) (Memref.isWhole_whole _) (spec0_0.stage ((cfg0 (adm m 0)).slots t 0)) (hstage0_0 (((cfg0 (adm m 0)).slots t 0).cast nbuf0_0)) (spec0_1.stage ((cfg0 (adm m 0)).slots t 1)) (hstage0_1 (((cfg0 (adm m 0)).slots t 1).cast nbuf0_1)) (spec0_2.stage ((cfg0 (adm m 0)).slots t 2)) (hstage0_2 (((cfg0 (adm m 0)).slots t 2).cast nbuf0_2)) (spec0_3.stage ((cfg0 (adm m 0)).slots t 3)) (hstage0_3 (((cfg0 (adm m 0)).slots t 3).cast nbuf0_3)) (spec0_4.stage ((cfg0 (adm m 0)).slots t 4)) (hstage0_4 (((cfg0 (adm m 0)).slots t 4).cast nbuf0_4)) (spec0_5.stage ((cfg0 (adm m 0)).slots t 5)) (hstage0_5 (((cfg0 (adm m 0)).slots t 5).cast nbuf0_5)) (spec0_6.stage ((cfg0 (adm m 0)).slots t 6)) (hstage0_6 (((cfg0 (adm m 0)).slots t 6).cast nbuf0_6)) (spec0_7.stage ((cfg0 (adm m 0)).slots t 7)) (hstage0_7 (((cfg0 (adm m 0)).slots t 7).cast nbuf0_7)) (spec0_8.stage ((cfg0 (adm m 0)).slots t 8)) (hstage0_8 (((cfg0 (adm m 0)).slots t 8).cast nbuf0_8))
      (Memref.whole cc0_scratch0) (Memref.isWhole_whole _) (Memref.whole cc0_scratch1) (Memref.isWhole_whole _)
      (Y 6) (Y 7) (Y 8) x11 x12 hS)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %_ ⟨%x8', %x9', %x10', %x11', %x12', %hR, H1, H2, H3, H4, H5, H6, H7, H8, H9, H10, H11, H12⟩
    isplitl [Hp H1 H11 H12]
    · isplitl [Hp]; · iexact Hp
      isplitl [H1]; · iexact H1
      iexists x11', x12'
      isplitr; · ipureintro; exact hR.2.2.2
      isplitl [H11]; · iexact H11
      iexact H12
    isplitl [Ho]; · iexact Ho
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H5]
    · iexists _; isplitr; swap; · iexact H5
      ipureintro; exact rfl
    isplitl [H6]
    · iexists _; isplitr; swap; · iexact H6
      ipureintro; exact rfl
    isplitl [H7]
    · iexists _; isplitr; swap; · iexact H7
      ipureintro; exact rfl
    isplitl [H8]
    · iexists x8'; isplitr; swap; · iexact H8
      ipureintro; exact hR.1
    isplitl [H9]
    · iexists x9'; isplitr; swap; · iexact H9
      ipureintro; exact hR.2.1
    iexists x10'; isplitr; swap; · iexact H10
    ipureintro; exact hR.2.2.1

/-- The table at the launch's contents, on every device. -/
theorem hpf (c : Dev nD) (k) : V m c ((pcfgs (F := F) 0).pre.ref k) = (adm m 0).1 k := by
  obtain rfl : c = 0 := Subsingleton.elim _ _
  fin_cases k
  exact V_main_arg6 m 0

/-- Entering the launch the invariant holds. -/
theorem hin (P : Leaves F) (h0 : ∀ x11 x12, P.scratch 0 x11 x12) (c : Dev nD) :
    iprop(Pipeline.ΦA (cfg0 (adm m 0)).spec c ∗ Pipeline.ΦT (pcfgs (F := F) 0).pre (adm m 0).1 c) ⊢ (rdat m P c).Φ 0 := by
  obtain rfl : c = 0 := Subsingleton.elim _ _
  change _ ⊢ Φ m P 0 0
  unfold Φ Pipeline.ΦA Pipeline.ΦT Pipeline.prefHeld
  rw [owns_whole]
  change iprop((Pipeline.scopedRest spec0 (0 : Dev nD) ∗ _) ∗ _) ⊢ _
  rw [scopedRest0_eq, show (Finset.univ : Finset (Fin 1)) = {0} from rfl, bigSep_singleton]
  iintro ⟨⟨⟨⟨%f11, H11⟩, %f12, H12⟩, Hp⟩, HT⟩
  isplitl [Hp]; · iexact Hp
  isplitl [HT]; · iexact HT
  iexists f11, f12
  isplitr; · ipureintro; exact h0 _ _
  rw [owns_whole, owns_whole]
  isplitl [H11]; · iexact H11
  iexact H12

/-- Leaving it the scratch buffers are given back. -/
theorem hout (P : Leaves F) (c : Dev nD) : (rdat m P c).Φ (Fin.last (cfg0 (adm m 0)).N) ⊢ Pipeline.ΦA (cfg0 (adm m 0)).spec c := by
  change Φ m P c _ ⊢ iprop(Pipeline.scopedRest spec0 c ∗ ∃ r, prngReg c r)
  unfold Φ
  rw [scopedRest0_eq]
  simp only [owns_whole]
  iintro ⟨Hp, -, %x11, %x12, -, H11, H12⟩
  isplitr [Hp]; swap; · iexact Hp
  isplitl [H11]
  · iexists _; iexact H11
  iexists _; iexact H12

/-- THE RUN: every execution terminates with the semaphores at zero, the arrays at write-backs of what `Leaves` allows,
    every other buffer as the launch found it. -/
theorem run (P : Leaves F) (hP : PointRun m P) (h0 : ∀ x11 x12, P.scratch 0 x11 x12) (ρ : Dev nD → PrngReg)
    (Q : PUnit × MemSt nD τ sig (Elt F) → Prop)
    (hQ : ∀ r, RDat.FramePost (cfg0 (adm m 0)) (rdat m P) (V m) r ∧ r.2.sem = (fun _ => 0) → Q r) :
    θ_run (defs (F := F)) (onTc (τ := τ) (main (F := F))) ⟨m, fun _ => 0, ρ⟩ Q :=
  Pipeline.RDat.θ_run_frameP_track pcfgs (adm m) 0 launch0 (defs₀ (F := F)) Variants.none (rdat m P) m ρ main
    (body m P hP) (fun c w => by unfold RDat.share; split <;> rfl) (fun _ _ => rfl) (V m) (hmain m Variants.none)
    (fun _ _ => rfl) (hpf m) (hin m P h0) (hout m P) Q hQ

/-- Every buffer that is no window's array, in particular an argument of `@main` other than `main_arg2`, ends as launched. -/
theorem rest (P : Leaves F) (r) (h : RDat.FramePost (cfg0 (adm m 0)) (rdat m P) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have R := fun (b : Ref sig .tc) (h1 : b.isScoped = false) (h2 : ∀ w, Pipeline.arrRef spec0 w ≠ b) => (h c).2 b (Pipeline.mem_restRefs_of b h1 h2)
  ⟨(R main_arg0 (by decide) (by decide)).trans (V_main_arg0 m c), (R main_arg1 (by decide) (by decide)).trans (V_main_arg1 m c),
    (RDat.FramePost.arr_in h c 2 rfl).trans (V_main_arg2 m c),
    (R main_arg3 (by decide) (by decide)).trans (V_main_arg3 m c), (R main_arg4 (by decide) (by decide)).trans (V_main_arg4 m c),
    (R main_arg5 (by decide) (by decide)).trans (V_main_arg5 m c), (R main_arg6 (by decide) (by decide)).trans (V_main_arg6 m c)⟩

end Cert.Kernel.Run

end
-- ==== Proof.KernelRuns.lean ====
/-
  One run of the kernel body on arbitrary whole memrefs, in its three cases: the first grid point, a point between, the
  last. Each leaves what it only reads as found, and what it writes at some contents.
-/
module

public import proofs.«01_k».proof.Proof.Gen.Kernel.Launch
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 1000000 in
/-- The first point: the partial sums are stored. -/
theorem runFirst (c : Dev nD) (i : grid0.Coords)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x1 : S2.Idx → Elt F .i32) (x2 : S1024x4096.Idx → Elt F .fp8e4m3) (x3 : S1024x1.Idx → Elt F .f32) (x4 : S4096x512.Idx → Elt F .fp8e4m3) (x5 : S1x512.Idx → Elt F .f32) (x6 : S1024x512.Idx → Elt F .bf16) (x7 : S1x5120.Idx → Elt F .f32) (x8 : S1024x512.Idx → Elt F .bf16) (x9 : S1024x5120.Idx → Elt F .fp8e4m3) (x10 : S1024x1.Idx → Elt F .f32) (x11 : S10x1024x512.Idx → Elt F .bf16) (x12 : S1024x128.Idx → Elt F .f32)
    (h0 : Scalar.cmpi .ne (Scalar.extui (Scalar.cmpi .eq (BitVec.ofNat 32 (i 0).val) 0#32) : BitVec 32) 0#32 = 1#1)
    (h1 : ¬ Scalar.cmpi .ne (Scalar.extui (Scalar.cmpi .sgt (BitVec.ofNat 32 (i 0).val) 0#32) : BitVec 32) 0#32 = 1#1)
    (h17 : ¬ k0_cond17 i = 1#1) (E : Set ℕ) :
    (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) E (cc0_proj_rmsnorm_quant i arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12')) := by
  simp only [cc0_proj_rmsnorm_quant_eq_skeleton]; unfold cc0_proj_rmsnorm_quant_skel
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  iexists _, _, _, _, _
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  iexists _; isplitr; swap; · iexact H12
  ipureintro; rfl

set_option maxHeartbeats 1000000 in
/-- The a point between: the partial sums are added. -/
theorem runMid (c : Dev nD) (i : grid0.Coords)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x1 : S2.Idx → Elt F .i32) (x2 : S1024x4096.Idx → Elt F .fp8e4m3) (x3 : S1024x1.Idx → Elt F .f32) (x4 : S4096x512.Idx → Elt F .fp8e4m3) (x5 : S1x512.Idx → Elt F .f32) (x6 : S1024x512.Idx → Elt F .bf16) (x7 : S1x5120.Idx → Elt F .f32) (x8 : S1024x512.Idx → Elt F .bf16) (x9 : S1024x5120.Idx → Elt F .fp8e4m3) (x10 : S1024x1.Idx → Elt F .f32) (x11 : S10x1024x512.Idx → Elt F .bf16) (x12 : S1024x128.Idx → Elt F .f32)
    (h0 : ¬ Scalar.cmpi .ne (Scalar.extui (Scalar.cmpi .eq (BitVec.ofNat 32 (i 0).val) 0#32) : BitVec 32) 0#32 = 1#1)
    (h1 : Scalar.cmpi .ne (Scalar.extui (Scalar.cmpi .sgt (BitVec.ofNat 32 (i 0).val) 0#32) : BitVec 32) 0#32 = 1#1)
    (h17 : ¬ k0_cond17 i = 1#1) (E : Set ℕ) :
    (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) E (cc0_proj_rmsnorm_quant i arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12')) := by
  simp only [cc0_proj_rmsnorm_quant_eq_skeleton]; unfold cc0_proj_rmsnorm_quant_skel
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  iexists _, _, _, _, _
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  iexists _; isplitr; swap; · iexact H12
  ipureintro; rfl

set_option maxHeartbeats 1000000 in
/-- The last point: the partial sums are added and the rows are normalised and quantised. -/
theorem runLast (c : Dev nD) (i : grid0.Coords)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x1 : S2.Idx → Elt F .i32) (x2 : S1024x4096.Idx → Elt F .fp8e4m3) (x3 : S1024x1.Idx → Elt F .f32) (x4 : S4096x512.Idx → Elt F .fp8e4m3) (x5 : S1x512.Idx → Elt F .f32) (x6 : S1024x512.Idx → Elt F .bf16) (x7 : S1x5120.Idx → Elt F .f32) (x8 : S1024x512.Idx → Elt F .bf16) (x9 : S1024x5120.Idx → Elt F .fp8e4m3) (x10 : S1024x1.Idx → Elt F .f32) (x11 : S10x1024x512.Idx → Elt F .bf16) (x12 : S1024x128.Idx → Elt F .f32)
    (h0 : ¬ Scalar.cmpi .ne (Scalar.extui (Scalar.cmpi .eq (BitVec.ofNat 32 (i 0).val) 0#32) : BitVec 32) 0#32 = 1#1)
    (h1 : Scalar.cmpi .ne (Scalar.extui (Scalar.cmpi .sgt (BitVec.ofNat 32 (i 0).val) 0#32) : BitVec 32) 0#32 = 1#1)
    (h17 : k0_cond17 i = 1#1) (E : Set ℕ) :
    (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) E (cc0_proj_rmsnorm_quant i arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12')) := by
  simp only [cc0_proj_rmsnorm_quant_eq_skeleton]; unfold cc0_proj_rmsnorm_quant_skel
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  iexists _, _, _, _, _
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  iexists _; isplitr; swap; · iexact H12
  ipureintro; rfl

end Cert.Kernel.Run

end
-- ==== Proof.KernelAny.lean ====
/-
  The frame of the kernel as it runs: the three cases of the body put together, with nothing said of the contents.
-/
module

public import proofs.«01_k».proof.Proof.KernelFrame
public import proofs.«01_k».proof.Proof.KernelRuns

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- Nothing is said of what the points leave. -/
def any : Leaves F := ⟨fun _ _ _ => True, fun _ _ => True, fun _ _ => True, fun _ _ => True⟩

theorem first_iff (i : grid0.Coords) : Scalar.cmpi .ne (Scalar.extui (Scalar.cmpi .eq (BitVec.ofNat 32 (i 0).val) 0#32) : BitVec 32) 0#32 = 1#1 ↔ (i 0).val = 0 := by
  have : ∀ n : Fin 10, Scalar.cmpi .ne (Scalar.extui (Scalar.cmpi .eq (BitVec.ofNat 32 n.val) 0#32) : BitVec 32) 0#32 = 1#1 ↔ n.val = 0 := by decide
  exact this (i 0)

theorem later_iff (i : grid0.Coords) : Scalar.cmpi .ne (Scalar.extui (Scalar.cmpi .sgt (BitVec.ofNat 32 (i 0).val) 0#32) : BitVec 32) 0#32 = 1#1 ↔ (i 0).val ≠ 0 := by
  have : ∀ n : Fin 10, Scalar.cmpi .ne (Scalar.extui (Scalar.cmpi .sgt (BitVec.ofNat 32 n.val) 0#32) : BitVec 32) 0#32 = 1#1 ↔ n.val ≠ 0 := by decide
  exact this (i 0)

theorem last_iff (i : grid0.Coords) : k0_cond17 i = 1#1 ↔ (i 0).val = 9 := by
  have : ∀ n : Fin 10, Scalar.cmpi .ne (Scalar.extui (Scalar.cmpi .eq (BitVec.ofNat 32 n.val) 9#32) : BitVec 32) 0#32 = 1#1 ↔ n.val = 9 := by decide
  exact this (i 0)

variable (m : (ℓ : Loc nD τ sig) → Buf (Elt F) ℓ)

theorem pointRun : PointRun m any := by
  intro c t arg1 harg1 arg2 harg2 arg3 harg3 arg4 harg4 arg5 harg5 arg6 harg6 arg7 harg7 arg8 harg8 arg9 harg9 arg10 harg10 arg11 harg11 arg12 harg12 x8 x9 x10 x11 x12 _
  have hv := coords_val t
  have fin : ∀ {A B C D E : Type} {Q : A → B → C → D → E → sProp 𝕄},
      (iprop(∃ a b c d e, Q a b c d e) : sProp 𝕄) ⊢ iprop(∃ a b c d e, ⌜True ∧ True ∧ True ∧ True⌝ ∗ Q a b c d e) := by
    intro A B C D E Q
    iintro ⟨%a, %b, %c, %d, %e, H⟩
    iexists a, b, c, d, e
    isplitr; · ipureintro; exact ⟨trivial, trivial, trivial, trivial⟩
    iexact H
  by_cases h0 : t.val = 0
  · exact (runFirst c (grid0.coords t) arg1 harg1 arg2 harg2 arg3 harg3 arg4 harg4 arg5 harg5 arg6 harg6 arg7 harg7 arg8 harg8 arg9 harg9 arg10 harg10 arg11 harg11 arg12 harg12 _ _ _ _ _ _ _ x8 x9 x10 x11 x12 ((first_iff _).mpr (by omega))
      (mt (later_iff _).mp (by omega)) (mt (last_iff _).mp (by omega)) _).trans (wp_mono _ _ _ fun _ => fin)
  · by_cases h9 : t.val = 9
    · exact (runLast c (grid0.coords t) arg1 harg1 arg2 harg2 arg3 harg3 arg4 harg4 arg5 harg5 arg6 harg6 arg7 harg7 arg8 harg8 arg9 harg9 arg10 harg10 arg11 harg11 arg12 harg12 _ _ _ _ _ _ _ x8 x9 x10 x11 x12 (mt (first_iff _).mp (by omega))
        ((later_iff _).mpr (by omega)) ((last_iff _).mpr (by omega)) _).trans (wp_mono _ _ _ fun _ => fin)
    · exact (runMid c (grid0.coords t) arg1 harg1 arg2 harg2 arg3 harg3 arg4 harg4 arg5 harg5 arg6 harg6 arg7 harg7 arg8 harg8 arg9 harg9 arg10 harg10 arg11 harg11 arg12 harg12 _ _ _ _ _ _ _ x8 x9 x10 x11 x12 (mt (first_iff _).mp (by omega))
        ((later_iff _).mpr (by omega)) (mt (last_iff _).mp (by omega)) _).trans (wp_mono _ _ _ fun _ => fin)

end Cert.Kernel.Run

end
-- ==== Proof.KernelIdealKit.lean ====
/-
  `@main` up to the kernel launch: the five host reshapes, and what each buffer of the device holds when the launch is
  entered (`V`). No host operation writes an argument, so the arguments are as launched there.
-/
module

public import proofs.«01_k».proof.Proof.Gen.KernelIdeal.Launch
public import Idealize.ShloMosaic.Lib.Pipeline.FrameBody
public import Idealize.ShloMosaic.Lib.Pipeline.ArrRel
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-- What device `c`'s buffer `b` holds when the launch is entered: after the host reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The region is entered with every buffer at `V`. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- No host operation writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-- No host operation writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-- The grid's coordinate at point `t` is `t`. -/
theorem coords_val (t : Fin grid0.N) : (grid0.coords t 0).val = t.val := by
  rcases fin_N0 t with h | h | h | h | h | h | h | h | h | h <;> subst h <;> decide

/-- The table of lengths as the launch finds it. -/
def adm : (p : Fin 1) → (pcfgs (F := F) p).Adm := fun p =>
  ⟨fun k => m (((0 : Dev nD) : Thread nD τ).loc ((pcfgs (F := F) p).pre.ref k)), trivial⟩

end Cert.KernelIdeal.Run

end
-- ==== Proof.KernelIdealFrame.lean ====
/-
  The launch over what each point leaves. `Leaves` says, point by point, what is known of the two scratch buffers before
  a point and of the three output windows after it; `PointRun` is the obligation that one run of the body at a point
  takes the first to the second. From that obligation the whole run follows: every execution terminates, the buffers
  no window writes end as the launch found them, and each output array ends at write-backs of contents that `Leaves`
  allows.
-/
module

public import proofs.«01_k».proof.Proof.KernelIdealKit
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- What is known of the scratch buffers before point `n` (`scratch`) and of the output windows after it. -/
structure Leaves (F : FTy → Type) [FloatOps F] where
  scratch : ℕ → (S10x1024x512.Idx → Elt F .bf16) → (S1024x128.Idx → Elt F .f32) → Prop
  h : ℕ → (S1024x512.Idx → Elt F .bf16) → Prop
  n : ℕ → (S1024x5120.Idx → Elt F .fp8e4m3) → Prop
  ns : ℕ → (S1024x1.Idx → Elt F .f32) → Prop

variable (m : (ℓ : Loc nD τ sig) → Buf (Elt F) ℓ)

/-- The table of lengths. -/
abbrev lens (c : Dev nD) : S2.Idx → Elt F .i32 := m ((c : Thread nD τ).loc main_arg6)

/-- Input window `w`'s block at point `t`, read off its array as the launch finds it. -/
def iblk (c : Dev nD) (w : Fin 9) (t : Fin grid0.N) :
    ((win0 (adm m 0) w).xblock (grid0.coords t)).Idx → Elt F (win0 (adm m 0) w).elt :=
  ((win0 (adm m 0) w).blk t).view.read (Elt F) (V m c (Pipeline.arrRef spec0 w))
abbrev xBlk (c : Dev nD) (t : Fin grid0.N) : S1024x4096.Idx → Elt F .fp8e4m3 := iblk m c 0 t
abbrev xsBlk (c : Dev nD) (t : Fin grid0.N) : S1024x1.Idx → Elt F .f32 := iblk m c 1 t
abbrev wBlk (c : Dev nD) (t : Fin grid0.N) : S4096x512.Idx → Elt F .fp8e4m3 := iblk m c 2 t
abbrev wsBlk (c : Dev nD) (t : Fin grid0.N) : S1x512.Idx → Elt F .f32 := iblk m c 3 t
abbrev resBlk (c : Dev nD) (t : Fin grid0.N) : S1024x512.Idx → Elt F .bf16 := iblk m c 4 t
abbrev gBlk (c : Dev nD) (t : Fin grid0.N) : S1x5120.Idx → Elt F .f32 := iblk m c 5 t

/-- One run of the body at a point, on any whole memrefs: from the scratch contents `Leaves` allows before the point to
    contents it allows after, with the inputs' blocks in place. -/
def PointRun (P : Leaves F) : Prop :=
  ∀ (c : Dev nD) (t : Fin grid0.N)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x8 : S1024x512.Idx → Elt F .bf16) (x9 : S1024x5120.Idx → Elt F .fp8e4m3) (x10 : S1024x1.Idx → Elt F .f32) (x11 : S10x1024x512.Idx → Elt F .bf16) (x12 : S1024x128.Idx → Elt F .f32), P.scratch t.val x11 x12 →
    ((iprop(owns (c : Thread nD τ) arg1 fullShare.right (lens m c) ∗ owns (c : Thread nD τ) arg2 fullShare (xBlk m c t) ∗ owns (c : Thread nD τ) arg3 fullShare (xsBlk m c t) ∗ owns (c : Thread nD τ) arg4 fullShare (wBlk m c t) ∗ owns (c : Thread nD τ) arg5 fullShare (wsBlk m c t) ∗ owns (c : Thread nD τ) arg6 fullShare (resBlk m c t) ∗ owns (c : Thread nD τ) arg7 fullShare (gBlk m c t) ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) Set.univ (cc0_proj_rmsnorm_quant (grid0.coords t) arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', ⌜P.h t.val x8' ∧ P.n t.val x9' ∧ P.ns t.val x10' ∧ P.scratch (t.val + 1) x11' x12'⌝ ∗
            owns (c : Thread nD τ) arg1 fullShare.right (lens m c) ∗ owns (c : Thread nD τ) arg2 fullShare (xBlk m c t) ∗ owns (c : Thread nD τ) arg3 fullShare (xsBlk m c t) ∗ owns (c : Thread nD τ) arg4 fullShare (wBlk m c t) ∗ owns (c : Thread nD τ) arg5 fullShare (wsBlk m c t) ∗ owns (c : Thread nD τ) arg6 fullShare (resBlk m c t) ∗ owns (c : Thread nD τ) arg7 fullShare (gBlk m c t) ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12')))

/-- The invariant before point `n`: the random state, the table's half, and the two scratch buffers. -/
def Φ (P : Leaves F) (c : Dev nD) (n : ℕ) : sProp 𝕄 :=
  iprop((∃ r, prngReg c r) ∗ owns (c : Thread nD τ) (Memref.whole main_arg6) fullShare.right (lens m c)
    ∗ ∃ x11 x12, ⌜P.scratch n x11 x12⌝ ∗ owns (c : Thread nD τ) (Memref.whole cc0_scratch0) fullShare x11
        ∗ owns (c : Thread nD τ) (Memref.whole cc0_scratch1) fullShare x12)

/-- What the body may leave in a window's buffer: an input as found, an output as `Leaves` says. -/
def after (P : Leaves F) : (w : Fin 9) → Fin grid0.N →
    (Y X : (win0 (adm m 0) w).block.Idx → Elt F (win0 (adm m 0) w).elt) → Prop
  | 0, _, Y, X => X = Y
  | 1, _, Y, X => X = Y
  | 2, _, Y, X => X = Y
  | 3, _, Y, X => X = Y
  | 4, _, Y, X => X = Y
  | 5, _, Y, X => X = Y
  | 6, t, _, X => P.h t.val X
  | 7, t, _, X => P.n t.val X
  | 8, t, _, X => P.ns t.val X

/-- The proof data of the launch. -/
def rdat (P : Leaves F) (c : Dev nD) : RDat τ (Elt F) Unit ℕ (UR sig nD τ) ℕ (cfg0 (adm m 0)) c where
  A w := V m c (Pipeline.arrRef spec0 w)
  after := after m P
  Φ t := Φ m P c t.val
  q := fun _ => fullShare
  owed := fun _ => 0

/-- Input window 0 is found at its block. -/
theorem finds0 (P : Leaves F) (c : Dev nD) (t : Fin grid0.N) (Y) (h : (rdat m P c).Finds 0 t Y) : Y = iblk m c 0 t := by
  obtain ⟨d, rfl⟩ := (rdat m P c).finds_in_eq_fetched 0 rfl (fun _ _ _ => rfl) (fun _ _ _ h => h) t Y h
  rfl

/-- Input window 1 is found at its block. -/
theorem finds1 (P : Leaves F) (c : Dev nD) (t : Fin grid0.N) (Y) (h : (rdat m P c).Finds 1 t Y) : Y = iblk m c 1 t := by
  obtain ⟨d, rfl⟩ := (rdat m P c).finds_in_eq_fetched 1 rfl (fun _ _ _ => rfl) (fun _ _ _ h => h) t Y h
  rfl

/-- Input window 2 is found at its block. -/
theorem finds2 (P : Leaves F) (c : Dev nD) (t : Fin grid0.N) (Y) (h : (rdat m P c).Finds 2 t Y) : Y = iblk m c 2 t := by
  obtain ⟨d, rfl⟩ := (rdat m P c).finds_in_eq_fetched 2 rfl (fun _ _ _ => rfl) (fun _ _ _ h => h) t Y h
  rfl

/-- Input window 3 is found at its block. -/
theorem finds3 (P : Leaves F) (c : Dev nD) (t : Fin grid0.N) (Y) (h : (rdat m P c).Finds 3 t Y) : Y = iblk m c 3 t := by
  obtain ⟨d, rfl⟩ := (rdat m P c).finds_in_eq_fetched 3 rfl (fun _ _ _ => rfl) (fun _ _ _ h => h) t Y h
  rfl

/-- Input window 4 is found at its block. -/
theorem finds4 (P : Leaves F) (c : Dev nD) (t : Fin grid0.N) (Y) (h : (rdat m P c).Finds 4 t Y) : Y = iblk m c 4 t := by
  obtain ⟨d, rfl⟩ := (rdat m P c).finds_in_eq_fetched 4 rfl (fun _ _ _ => rfl) (fun _ _ _ h => h) t Y h
  rfl

/-- Input window 5 is found at its block. -/
theorem finds5 (P : Leaves F) (c : Dev nD) (t : Fin grid0.N) (Y) (h : (rdat m P c).Finds 5 t Y) : Y = iblk m c 5 t := by
  obtain ⟨d, rfl⟩ := (rdat m P c).finds_in_eq_fetched 5 rfl (fun _ _ _ => rfl) (fun _ _ _ h => h) t Y h
  rfl

/-- The body obligation of the launch, from the run of a point. -/
theorem body (P : Leaves F) (hP : PointRun m P) (c : Dev nD) : (rdat m P c).BodyObligation (defs₀ (F := F)) Variants.none () Set.univ := by
  intro t Y hY
  have e0 := finds0 m P c t _ (hY 0)
  have e1 := finds1 m P c t _ (hY 1)
  have e2 := finds2 m P c t _ (hY 2)
  have e3 := finds3 m P c t _ (hY 3)
  have e4 := finds4 m P c t _ (hY 4)
  have e5 := finds5 m P c t _ (hY 5)
  rw [bigSep_W0, bigSep_W0, e0, e1, e2, e3, e4, e5]
  change iprop(Φ m P c t.val ∗ _ ∗ _) ⊢ wp _ _ _ _ (fun _ => iprop(Φ m P c (t.val + 1) ∗ _ ∗ _))
  unfold Φ
  iintro ⟨⟨Hp, H1, %x11, %x12, %hS, H11, H12⟩, Ho, H2, H3, H4, H5, H6, H7, H8, H9, H10⟩
  iapply (wp_wand_r Idealize.ShloMosaic.frame (wpE (defs₀ (F := F)) Variants.none (c : Thread nD τ) none) Set.univ)
  isplitl [H1 H2 H3 H4 H5 H6 H7 H8 H9 H10 H11 H12]
  · iapply (hP c t (Memref.whole main_arg6) (Memref.isWhole_whole _) (spec0_0.stage ((cfg0 (adm m 0)).slots t 0)) (hstage0_0 (((cfg0 (adm m 0)).slots t 0).cast nbuf0_0)) (spec0_1.stage ((cfg0 (adm m 0)).slots t 1)) (hstage0_1 (((cfg0 (adm m 0)).slots t 1).cast nbuf0_1)) (spec0_2.stage ((cfg0 (adm m 0)).slots t 2)) (hstage0_2 (((cfg0 (adm m 0)).slots t 2).cast nbuf0_2)) (spec0_3.stage ((cfg0 (adm m 0)).slots t 3)) (hstage0_3 (((cfg0 (adm m 0)).slots t 3).cast nbuf0_3)) (spec0_4.stage ((cfg0 (adm m 0)).slots t 4)) (hstage0_4 (((cfg0 (adm m 0)).slots t 4).cast nbuf0_4)) (spec0_5.stage ((cfg0 (adm m 0)).slots t 5)) (hstage0_5 (((cfg0 (adm m 0)).slots t 5).cast nbuf0_5)) (spec0_6.stage ((cfg0 (adm m 0)).slots t 6)) (hstage0_6 (((cfg0 (adm m 0)).slots t 6).cast nbuf0_6)) (spec0_7.stage ((cfg0 (adm m 0)).slots t 7)) (hstage0_7 (((cfg0 (adm m 0)).slots t 7).cast nbuf0_7)) (spec0_8.stage ((cfg0 (adm m 0)).slots t 8)) (hstage0_8 (((cfg0 (adm m 0)).slots t 8).cast nbuf0_8))
      (Memref.whole cc0_scratch0) (Memref.isWhole_whole _) (Memref.whole cc0_scratch1) (Memref.isWhole_whole _)
      (Y 6) (Y 7) (Y 8) x11 x12 hS)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %_ ⟨%x8', %x9', %x10', %x11', %x12', %hR, H1, H2, H3, H4, H5, H6, H7, H8, H9, H10, H11, H12⟩
    isplitl [Hp H1 H11 H12]
    · isplitl [Hp]; · iexact Hp
      isplitl [H1]; · iexact H1
      iexists x11', x12'
      isplitr; · ipureintro; exact hR.2.2.2
      isplitl [H11]; · iexact H11
      iexact H12
    isplitl [Ho]; · iexact Ho
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H5]
    · iexists _; isplitr; swap; · iexact H5
      ipureintro; exact rfl
    isplitl [H6]
    · iexists _; isplitr; swap; · iexact H6
      ipureintro; exact rfl
    isplitl [H7]
    · iexists _; isplitr; swap; · iexact H7
      ipureintro; exact rfl
    isplitl [H8]
    · iexists x8'; isplitr; swap; · iexact H8
      ipureintro; exact hR.1
    isplitl [H9]
    · iexists x9'; isplitr; swap; · iexact H9
      ipureintro; exact hR.2.1
    iexists x10'; isplitr; swap; · iexact H10
    ipureintro; exact hR.2.2.1

/-- The table at the launch's contents, on every device. -/
theorem hpf (c : Dev nD) (k) : V m c ((pcfgs (F := F) 0).pre.ref k) = (adm m 0).1 k := by
  obtain rfl : c = 0 := Subsingleton.elim _ _
  fin_cases k
  exact V_main_arg6 m 0

/-- Entering the launch the invariant holds. -/
theorem hin (P : Leaves F) (h0 : ∀ x11 x12, P.scratch 0 x11 x12) (c : Dev nD) :
    iprop(Pipeline.ΦA (cfg0 (adm m 0)).spec c ∗ Pipeline.ΦT (pcfgs (F := F) 0).pre (adm m 0).1 c) ⊢ (rdat m P c).Φ 0 := by
  obtain rfl : c = 0 := Subsingleton.elim _ _
  change _ ⊢ Φ m P 0 0
  unfold Φ Pipeline.ΦA Pipeline.ΦT Pipeline.prefHeld
  rw [owns_whole]
  change iprop((Pipeline.scopedRest spec0 (0 : Dev nD) ∗ _) ∗ _) ⊢ _
  rw [scopedRest0_eq, show (Finset.univ : Finset (Fin 1)) = {0} from rfl, bigSep_singleton]
  iintro ⟨⟨⟨⟨%f11, H11⟩, %f12, H12⟩, Hp⟩, HT⟩
  isplitl [Hp]; · iexact Hp
  isplitl [HT]; · iexact HT
  iexists f11, f12
  isplitr; · ipureintro; exact h0 _ _
  rw [owns_whole, owns_whole]
  isplitl [H11]; · iexact H11
  iexact H12

/-- Leaving it the scratch buffers are given back. -/
theorem hout (P : Leaves F) (c : Dev nD) : (rdat m P c).Φ (Fin.last (cfg0 (adm m 0)).N) ⊢ Pipeline.ΦA (cfg0 (adm m 0)).spec c := by
  change Φ m P c _ ⊢ iprop(Pipeline.scopedRest spec0 c ∗ ∃ r, prngReg c r)
  unfold Φ
  rw [scopedRest0_eq]
  simp only [owns_whole]
  iintro ⟨Hp, -, %x11, %x12, -, H11, H12⟩
  isplitr [Hp]; swap; · iexact Hp
  isplitl [H11]
  · iexists _; iexact H11
  iexists _; iexact H12

/-- THE RUN: every execution terminates with the semaphores at zero, the arrays at write-backs of what `Leaves` allows,
    every other buffer as the launch found it. -/
theorem run (P : Leaves F) (hP : PointRun m P) (h0 : ∀ x11 x12, P.scratch 0 x11 x12) (ρ : Dev nD → PrngReg)
    (Q : PUnit × MemSt nD τ sig (Elt F) → Prop)
    (hQ : ∀ r, RDat.FramePost (cfg0 (adm m 0)) (rdat m P) (V m) r ∧ r.2.sem = (fun _ => 0) → Q r) :
    θ_run (defs (F := F)) (onTc (τ := τ) (main (F := F))) ⟨m, fun _ => 0, ρ⟩ Q :=
  Pipeline.RDat.θ_run_frameP_track pcfgs (adm m) 0 launch0 (defs₀ (F := F)) Variants.none (rdat m P) m ρ main
    (body m P hP) (fun c w => by unfold RDat.share; split <;> rfl) (fun _ _ => rfl) (V m) (hmain m Variants.none)
    (fun _ _ => rfl) (hpf m) (hin m P h0) (hout m P) Q hQ

/-- Every buffer that is no window's array, in particular an argument of `@main` other than `main_arg2`, ends as launched. -/
theorem rest (P : Leaves F) (r) (h : RDat.FramePost (cfg0 (adm m 0)) (rdat m P) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have R := fun (b : Ref sig .tc) (h1 : b.isScoped = false) (h2 : ∀ w, Pipeline.arrRef spec0 w ≠ b) => (h c).2 b (Pipeline.mem_restRefs_of b h1 h2)
  ⟨(R main_arg0 (by decide) (by decide)).trans (V_main_arg0 m c), (R main_arg1 (by decide) (by decide)).trans (V_main_arg1 m c),
    (RDat.FramePost.arr_in h c 2 rfl).trans (V_main_arg2 m c),
    (R main_arg3 (by decide) (by decide)).trans (V_main_arg3 m c), (R main_arg4 (by decide) (by decide)).trans (V_main_arg4 m c),
    (R main_arg5 (by decide) (by decide)).trans (V_main_arg5 m c), (R main_arg6 (by decide) (by decide)).trans (V_main_arg6 m c)⟩

end Cert.KernelIdeal.Run

end
-- ==== Proof.KernelIdealRuns.lean ====
/-
  One run of the kernel body on arbitrary whole memrefs, in its three cases: the first grid point, a point between, the
  last. Each leaves what it only reads as found, and what it writes at some contents.
-/
module

public import proofs.«01_k».proof.Proof.Gen.KernelIdeal.Launch
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 1000000 in
/-- The first point: the partial sums are stored. -/
theorem runFirst (c : Dev nD) (i : grid0.Coords)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x1 : S2.Idx → Elt F .i32) (x2 : S1024x4096.Idx → Elt F .fp8e4m3) (x3 : S1024x1.Idx → Elt F .f32) (x4 : S4096x512.Idx → Elt F .fp8e4m3) (x5 : S1x512.Idx → Elt F .f32) (x6 : S1024x512.Idx → Elt F .bf16) (x7 : S1x5120.Idx → Elt F .f32) (x8 : S1024x512.Idx → Elt F .bf16) (x9 : S1024x5120.Idx → Elt F .fp8e4m3) (x10 : S1024x1.Idx → Elt F .f32) (x11 : S10x1024x512.Idx → Elt F .bf16) (x12 : S1024x128.Idx → Elt F .f32)
    (h0 : Scalar.cmpi .ne (Scalar.extui (Scalar.cmpi .eq (BitVec.ofNat 32 (i 0).val) 0#32) : BitVec 32) 0#32 = 1#1)
    (h1 : ¬ Scalar.cmpi .ne (Scalar.extui (Scalar.cmpi .sgt (BitVec.ofNat 32 (i 0).val) 0#32) : BitVec 32) 0#32 = 1#1)
    (h17 : ¬ k0_cond17 i = 1#1) (E : Set ℕ) :
    (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) E (cc0_proj_rmsnorm_quant i arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12')) := by
  simp only [cc0_proj_rmsnorm_quant_eq_skeleton]; unfold cc0_proj_rmsnorm_quant_skel
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  iexists _, _, _, _, _
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  iexists _; isplitr; swap; · iexact H12
  ipureintro; rfl

set_option maxHeartbeats 1000000 in
/-- The a point between: the partial sums are added. -/
theorem runMid (c : Dev nD) (i : grid0.Coords)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x1 : S2.Idx → Elt F .i32) (x2 : S1024x4096.Idx → Elt F .fp8e4m3) (x3 : S1024x1.Idx → Elt F .f32) (x4 : S4096x512.Idx → Elt F .fp8e4m3) (x5 : S1x512.Idx → Elt F .f32) (x6 : S1024x512.Idx → Elt F .bf16) (x7 : S1x5120.Idx → Elt F .f32) (x8 : S1024x512.Idx → Elt F .bf16) (x9 : S1024x5120.Idx → Elt F .fp8e4m3) (x10 : S1024x1.Idx → Elt F .f32) (x11 : S10x1024x512.Idx → Elt F .bf16) (x12 : S1024x128.Idx → Elt F .f32)
    (h0 : ¬ Scalar.cmpi .ne (Scalar.extui (Scalar.cmpi .eq (BitVec.ofNat 32 (i 0).val) 0#32) : BitVec 32) 0#32 = 1#1)
    (h1 : Scalar.cmpi .ne (Scalar.extui (Scalar.cmpi .sgt (BitVec.ofNat 32 (i 0).val) 0#32) : BitVec 32) 0#32 = 1#1)
    (h17 : ¬ k0_cond17 i = 1#1) (E : Set ℕ) :
    (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) E (cc0_proj_rmsnorm_quant i arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12')) := by
  simp only [cc0_proj_rmsnorm_quant_eq_skeleton]; unfold cc0_proj_rmsnorm_quant_skel
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  iexists _, _, _, _, _
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  iexists _; isplitr; swap; · iexact H12
  ipureintro; rfl

set_option maxHeartbeats 1000000 in
/-- The last point: the partial sums are added and the rows are normalised and quantised. -/
theorem runLast (c : Dev nD) (i : grid0.Coords)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x1 : S2.Idx → Elt F .i32) (x2 : S1024x4096.Idx → Elt F .fp8e4m3) (x3 : S1024x1.Idx → Elt F .f32) (x4 : S4096x512.Idx → Elt F .fp8e4m3) (x5 : S1x512.Idx → Elt F .f32) (x6 : S1024x512.Idx → Elt F .bf16) (x7 : S1x5120.Idx → Elt F .f32) (x8 : S1024x512.Idx → Elt F .bf16) (x9 : S1024x5120.Idx → Elt F .fp8e4m3) (x10 : S1024x1.Idx → Elt F .f32) (x11 : S10x1024x512.Idx → Elt F .bf16) (x12 : S1024x128.Idx → Elt F .f32)
    (h0 : ¬ Scalar.cmpi .ne (Scalar.extui (Scalar.cmpi .eq (BitVec.ofNat 32 (i 0).val) 0#32) : BitVec 32) 0#32 = 1#1)
    (h1 : Scalar.cmpi .ne (Scalar.extui (Scalar.cmpi .sgt (BitVec.ofNat 32 (i 0).val) 0#32) : BitVec 32) 0#32 = 1#1)
    (h17 : k0_cond17 i = 1#1) (E : Set ℕ) :
    (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) E (cc0_proj_rmsnorm_quant i arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12')) := by
  simp only [cc0_proj_rmsnorm_quant_eq_skeleton]; unfold cc0_proj_rmsnorm_quant_skel
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  iexists _, _, _, _, _
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  iexists _; isplitr; swap; · iexact H12
  ipureintro; rfl

end Cert.KernelIdeal.Run

end
-- ==== Proof.KernelIdealAny.lean ====
/-
  The frame of the kernel as it runs: the three cases of the body put together, with nothing said of the contents.
-/
module

public import proofs.«01_k».proof.Proof.KernelIdealFrame
public import proofs.«01_k».proof.Proof.KernelIdealRuns

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- Nothing is said of what the points leave. -/
def any : Leaves F := ⟨fun _ _ _ => True, fun _ _ => True, fun _ _ => True, fun _ _ => True⟩

theorem first_iff (i : grid0.Coords) : Scalar.cmpi .ne (Scalar.extui (Scalar.cmpi .eq (BitVec.ofNat 32 (i 0).val) 0#32) : BitVec 32) 0#32 = 1#1 ↔ (i 0).val = 0 := by
  have : ∀ n : Fin 10, Scalar.cmpi .ne (Scalar.extui (Scalar.cmpi .eq (BitVec.ofNat 32 n.val) 0#32) : BitVec 32) 0#32 = 1#1 ↔ n.val = 0 := by decide
  exact this (i 0)

theorem later_iff (i : grid0.Coords) : Scalar.cmpi .ne (Scalar.extui (Scalar.cmpi .sgt (BitVec.ofNat 32 (i 0).val) 0#32) : BitVec 32) 0#32 = 1#1 ↔ (i 0).val ≠ 0 := by
  have : ∀ n : Fin 10, Scalar.cmpi .ne (Scalar.extui (Scalar.cmpi .sgt (BitVec.ofNat 32 n.val) 0#32) : BitVec 32) 0#32 = 1#1 ↔ n.val ≠ 0 := by decide
  exact this (i 0)

theorem last_iff (i : grid0.Coords) : k0_cond17 i = 1#1 ↔ (i 0).val = 9 := by
  have : ∀ n : Fin 10, Scalar.cmpi .ne (Scalar.extui (Scalar.cmpi .eq (BitVec.ofNat 32 n.val) 9#32) : BitVec 32) 0#32 = 1#1 ↔ n.val = 9 := by decide
  exact this (i 0)

variable (m : (ℓ : Loc nD τ sig) → Buf (Elt F) ℓ)

theorem pointRun : PointRun m any := by
  intro c t arg1 harg1 arg2 harg2 arg3 harg3 arg4 harg4 arg5 harg5 arg6 harg6 arg7 harg7 arg8 harg8 arg9 harg9 arg10 harg10 arg11 harg11 arg12 harg12 x8 x9 x10 x11 x12 _
  have hv := coords_val t
  have fin : ∀ {A B C D E : Type} {Q : A → B → C → D → E → sProp 𝕄},
      (iprop(∃ a b c d e, Q a b c d e) : sProp 𝕄) ⊢ iprop(∃ a b c d e, ⌜True ∧ True ∧ True ∧ True⌝ ∗ Q a b c d e) := by
    intro A B C D E Q
    iintro ⟨%a, %b, %c, %d, %e, H⟩
    iexists a, b, c, d, e
    isplitr; · ipureintro; exact ⟨trivial, trivial, trivial, trivial⟩
    iexact H
  by_cases h0 : t.val = 0
  · exact (runFirst c (grid0.coords t) arg1 harg1 arg2 harg2 arg3 harg3 arg4 harg4 arg5 harg5 arg6 harg6 arg7 harg7 arg8 harg8 arg9 harg9 arg10 harg10 arg11 harg11 arg12 harg12 _ _ _ _ _ _ _ x8 x9 x10 x11 x12 ((first_iff _).mpr (by omega))
      (mt (later_iff _).mp (by omega)) (mt (last_iff _).mp (by omega)) _).trans (wp_mono _ _ _ fun _ => fin)
  · by_cases h9 : t.val = 9
    · exact (runLast c (grid0.coords t) arg1 harg1 arg2 harg2 arg3 harg3 arg4 harg4 arg5 harg5 arg6 harg6 arg7 harg7 arg8 harg8 arg9 harg9 arg10 harg10 arg11 harg11 arg12 harg12 _ _ _ _ _ _ _ x8 x9 x10 x11 x12 (mt (first_iff _).mp (by omega))
        ((later_iff _).mpr (by omega)) ((last_iff _).mpr (by omega)) _).trans (wp_mono _ _ _ fun _ => fin)
    · exact (runMid c (grid0.coords t) arg1 harg1 arg2 harg2 arg3 harg3 arg4 harg4 arg5 harg5 arg6 harg6 arg7 harg7 arg8 harg8 arg9 harg9 arg10 harg10 arg11 harg11 arg12 harg12 _ _ _ _ _ _ _ x8 x9 x10 x11 x12 (mt (first_iff _).mp (by omega))
        ((later_iff _).mpr (by omega)) (mt (last_iff _).mp (by omega)) _).trans (wp_mono _ _ _ fun _ => fin)

end Cert.KernelIdeal.Run

end
-- ==== Proof.Loop.lean ====
/-
  What one trip of the last grid point's loop computes for its 32 rows, from the rows' partial sums of squares, the ten
  stashed tiles and the ten tiles of gains: the rows' inverse root mean square (`inv`), their largest absolute value
  (`top`), the search for the scale's exponent (`field`, `expo`), the scale, and the codes of a tile.
-/
module

public import proofs.«01_k».proof.Proof.Gen.KernelIdeal.Launch
public import proofs.«01_k».proof.Proof.Gen.KernelIdeal.Skeleton

@[expose] public section

noncomputable section

namespace Cert.KernelIdeal.Loop

open Cert.KernelIdeal Cert.KernelIdeal.Gen Idealize.ShloMosaic

variable {F : FTy → Type} [FloatOps F]

/-- The rows' sums of squares. -/
def total (v : Vec F S32x128 .f32) : FVec F S32 .f32 :=
  multiReduction .add [1] S32 v 0x00000000#32 reduces_S32x128_S32 (.inl rfl) rfl

/-- The inverse root mean square from the sum of squares. -/
def invOf (v : FVec F S32 .f32) : FVec F S32x1 .f32 :=
  rsqrt (addf (divf (shapeCast S32x1 v shapeCasts_S32_S32x1) (broadcast S32x1 (Scalar.ofBits .f32 0x45A00000#32)))
    (broadcast S32x1 (Scalar.ofBits .f32 0x3727C5AC#32)))

/-- The rows' inverse root mean square. -/
def inv (v : Vec F S32x128 .f32) : FVec F S32x1 .f32 := invOf (total v)

/-- A tile of the normalised rows. -/
def norm (r : FVec F S32x1 .f32) (s : Vec F S1x32x512 .bf16) (g : Vec F S1x512 .f32) : FVec F S32x512 .f32 :=
  mulf (mulf (extf .f32 (shapeCast S32x512 s shapeCasts_S1x32x512_S32x512 : FVec F S32x512 .bf16) bitsLt_bf16_f32) (broadcastTo S32x512 r broadcasts_S32x1_S32x512))
    (broadcastTo S32x512 (shapeCast S1x512 g shapeCasts_S1x512_S1x512) broadcasts_S1x512_S32x512)

/-- A tile's largest absolute value per row. -/
def big (n : FVec F S32x512 .f32) : FVec F S32 .f32 :=
  multiReduction .maximumf [1] S32 (absf n) 0xFF800000#32 reduces_S32x512_S32 (.inl rfl) rfl

/-- The running maximum with one more tile. -/
def up (m : FVec F S32x1 .f32) (b : FVec F S32 .f32) : FVec F S32x1 .f32 := maximumf m (shapeCast S32x1 b shapeCasts_S32_S32x1)

/-- The running maximum before the first tile. -/
def zero : FVec F S32x1 .f32 := broadcast S32x1 (Scalar.ofBits .f32 0x00000000#32)

/-- The rows' largest absolute value. -/
def top (b : Fin 10 → FVec F S32 .f32) : FVec F S32x1 .f32 :=
  up (up (up (up (up (up (up (up (up (up zero (b 0)) (b 1)) (b 2)) (b 3)) (b 4)) (b 5)) (b 6)) (b 7)) (b 8)) (b 9)

/-- The largest absolute value times 1/448, on 128 lanes. -/
def over (m : FVec F S32x1 .f32) : FVec F S32x128 .f32 :=
  mulf (broadcastTo S32x128 (shapeCast S32x1 m shapeCasts_S32x1_S32x1) broadcasts_S32x1_S32x128)
    (broadcast S32x128 (Scalar.ofBits .f32 0x3B124925#32))

/-- One step of the search for the exponent field. -/
def trial (x : FVec F S32x128 .f32) (b : IVec S32x128 32) (bit : BitVec 32) : IVec S32x128 32 :=
  have t : IVec S32x128 32 := addi b (broadcast S32x128 bit)
  select (cmpf .oge x (bitcastToFloat .f32 (shli (addi (subi (minsi t (broadcast S32x128 247#32)) (broadcast S32x128 127#32))
    (broadcast S32x128 127#32)) (broadcast S32x128 23#32)))) t b

/-- The exponent field. -/
def field (x : FVec F S32x128 .f32) : IVec S32x128 32 :=
  trial x (trial x (trial x (trial x (trial x (trial x (trial x (trial x (broadcast S32x128 0#32) 128#32) 64#32) 32#32) 16#32) 8#32) 4#32) 2#32) 1#32

/-- The scale's exponent from the exponent field. -/
def expoOf (f : IVec S32x128 32) : IVec S32x128 32 :=
  select (ori (cmpi .eq f (broadcast S32x128 0#32)) (cmpi .eq f (broadcast S32x128 255#32))) (broadcast S32x128 0#32)
    (subi f (broadcast S32x128 126#32))

/-- The power of two with an exponent, one lane of it. -/
def power (e : IVec S32x128 32) : FVec F S32x1 .f32 :=
  extractStridedSlice S32x1 ![0, 0] (bitcastToFloat .f32 (shli (addi e (broadcast S32x128 127#32)) (broadcast S32x128 23#32)) : FVec F S32x128 .f32)
    slices_S32x128_o0_0_S32x1

/-- The rows' scales. -/
def scale (x : FVec F S32x128 .f32) : FVec F S32x1 .f32 := power (expoOf (field x))

/-- The inverses of the rows' scales. -/
def back (x : FVec F S32x128 .f32) : FVec F S32x1 .f32 := power (subi (broadcast S32x128 0#32) (expoOf (field x)))

/-- A tile's codes. -/
def code (n : FVec F S32x512 .f32) (b : FVec F S32x1 .f32) : FVec F S32x512 .fp8e4m3 :=
  truncf .fp8e4m3 (minimumf (broadcast S32x512 (Scalar.ofBits .f32 0x43E00000#32))
    (maximumf (broadcast S32x512 (Scalar.ofBits .f32 0xC3E00000#32)) (mulf n (broadcastTo S32x512 b broadcasts_S32x1_S32x512)))) bitsLt_fp8e4m3_f32

/-- The ten tiles of the normalised rows. -/
def norms (v : Vec F S32x128 .f32) (s : Fin 10 → Vec F S1x32x512 .bf16) (g : Fin 10 → Vec F S1x512 .f32) (p : Fin 10) : FVec F S32x512 .f32 :=
  norm (inv v) (s p) (g p)

/-- The rows' largest absolute value times 1/448. -/
def overs (v : Vec F S32x128 .f32) (s : Fin 10 → Vec F S1x32x512 .bf16) (g : Fin 10 → Vec F S1x512 .f32) : FVec F S32x128 .f32 :=
  over (top fun p => big (norms v s g p))

/-- The codes of the ten tiles. -/
def codes (v : Vec F S32x128 .f32) (s : Fin 10 → Vec F S1x32x512 .bf16) (g : Fin 10 → Vec F S1x512 .f32) (p : Fin 10) : FVec F S32x512 .fp8e4m3 :=
  code (norms v s g p) (back (overs v s g))

end Cert.KernelIdeal.Loop

end
-- ==== Proof.Spec.lean ====
/-
  What a row of the result is, over the extended reals, free of tiles: the row scaled by its root mean square and the
  gains (`normed`), its largest absolute value over 448 (`over`), the exponent of the scale (`expo`), the scale and the
  codes. `expo x` is the least `k` with `x < 2 ^ k`, and 0 where `x` is below 2^-126 or from 2^120 on.
-/
module

public import Idealize.ShloMosaic.Lib.Pointwise

@[expose] public section

noncomputable section

namespace Cert.Spec

open Idealize.ShloMosaic

/-- The normalised row. -/
def normed (h g : Fin 5120 → EReal) (c : Fin 5120) : EReal :=
  h c * Ideal.rsqrt (Ideal.div (∑ x, h x * h x) (Ideal.ofBits .f32 0x45A00000#32) + Ideal.ofBits .f32 0x3727C5AC#32) * g c

/-- The row's largest absolute value, times the constant 1/448. -/
def over (n : Fin 5120 → EReal) : EReal :=
  Finset.fold max (Ideal.ofBits .f32 0xFF800000#32) (fun c => max (n c) (-(n c))) Finset.univ * Ideal.ofBits .f32 0x3B124925#32

/-- The candidate exponents, from -125 to 120. -/
def cand (k : Fin 246) : EReal := FloatOps.sitofp (F := Ideal) .f32 (IntOp.subi (BitVec.ofNat 32 k.val) 125#32)

/-- The exponent of the scale. -/
def expo (x : EReal) : EReal :=
  Scalar.select (IntOp.ori (BitVec.ofBool (decide (x < Ideal.ofBits .f32 0x00800000#32)))
      (BitVec.ofBool (decide (Ideal.ofBits .f32 0x7B800000#32 ≤ x)))) 0
    (Finset.fold min (Ideal.ofBits .f32 0x7F800000#32)
      (fun k => if x < Ideal.exp2 (cand k) then cand k else Ideal.ofBits .f32 0x43000000#32) Finset.univ)

/-- The scale of a row. -/
def scale (n : Fin 5120 → EReal) : EReal := Ideal.exp2 (expo (over n))

/-- A value divided by the scale and clipped to the range of the codes. -/
def code (n : Fin 5120 → EReal) (v : EReal) : EReal :=
  min (Ideal.ofBits .f32 0x43E00000#32) (max (Ideal.ofBits .f32 0xC3E00000#32) (v * Ideal.exp2 (0 - expo (over n))))

/-- What both programs read: the codes and scales of the two factors, the residual, the gains and the row counts. -/
structure Data where
  x : Fin 1024 → Fin 4096 → EReal
  xs : Fin 1024 → EReal
  w : Fin 4096 → Fin 5120 → EReal
  ws : Fin 5120 → EReal
  res : Fin 1024 → Fin 5120 → EReal
  g : Fin 5120 → EReal
  len : Fin 2 → BitVec 32

/-- The first result: the residual plus the scaled product on the valid rows, zero on the others. -/
def Data.h (D : Data) (r : Fin 1024) (c : Fin 5120) : EReal :=
  if (BitVec.ofNat 32 (r.val % 512)).slt (D.len ⟨r.val / 512, by omega⟩) then
    D.res r c + (∑ k, D.x r k * D.w k c) * D.xs r * D.ws c
  else 0

/-- The normalised rows. -/
def Data.n (D : Data) (r : Fin 1024) : Fin 5120 → EReal := normed (D.h r) D.g

/-- The second result. -/
def Data.codes (D : Data) (r : Fin 1024) (c : Fin 5120) : EReal := code (D.n r) (D.n r c)

/-- The third result. -/
def Data.scales (D : Data) (r : Fin 1024) : EReal := scale (D.n r)

/-- A row's maximum is not below zero. -/
theorem over_nonneg (n : Fin 5120 → EReal) : 0 ≤ over n := by
  unfold over
  refine mul_nonneg ?_ ?_
  · refine (Finset.le_fold_max _).2 (Or.inr ⟨0, Finset.mem_univ _, ?_⟩)
    rcases le_total 0 (n 0) with h | h
    · exact le_max_of_le_left h
    · exact le_max_of_le_right (by simpa using EReal.neg_le_neg_iff.2 h)
  · simp [Ideal.ofBits, Ideal.ieee, -EReal.coe_mul]

end Cert.Spec

end
-- ==== Proof.Exponent.lean ====
/-
  The exponent of the scale, found bit by bit: the search keeps the greatest field `b` with 2^(b - 127) not above `x`,
  and the power of two of the exponent it gives is the one that `Spec.expo` names.
-/
module

public import proofs.«01_k».proof.Proof.Spec

@[expose] public section

noncomputable section

namespace Cert.Spec

open Idealize.ShloMosaic

/-- The float whose exponent field is `e + 127` and whose other bits are zero. -/
def pow2 (e : BitVec 32) : EReal := Ideal.ofBits .f32 (IntOp.shli .vector (IntOp.addi e 127#32) 23#32)

/-- One bit of the search: kept where the power at the trial field is not above `x`. -/
def step (x : EReal) (b bit : BitVec 32) : BitVec 32 :=
  Scalar.select (BitVec.ofBool (decide (pow2 (IntOp.subi (IntOp.minsi (IntOp.addi b bit) 247#32) 127#32) ≤ x))) (IntOp.addi b bit) b

/-- The field that the search finds. -/
def field (x : EReal) : BitVec 32 :=
  step x (step x (step x (step x (step x (step x (step x (step x 0#32 128#32) 64#32) 32#32) 16#32) 8#32) 4#32) 2#32) 1#32

/-- The exponent that the search gives. -/
def found (x : EReal) : BitVec 32 :=
  Scalar.select (IntOp.ori (IntOp.cmpi .eq (field x) 0#32) (IntOp.cmpi .eq (field x) 255#32)) 0#32 (IntOp.subi (field x) 126#32)

/-- A pattern with sign and fraction zero and exponent field `n` denotes 2^(n - 127). -/
theorem ieee_field (b : BitVec 32) (n : ℕ) (h1 : 1 ≤ n) (h2 : n ≤ 254) (e1 : (b.extractLsb' 23 8).toNat = n)
    (e2 : (b.extractLsb' 0 23).toNat = 0) (e3 : b.extractLsb' 31 1 = 0#1) :
    Ideal.ofBits .f32 b = (((2 : ℝ) ^ ((n : ℤ) - 127) : ℝ) : EReal) := by
  show Ideal.ieee 8 23 b = _
  unfold Ideal.ieee
  simp only [e1, e2]
  rw [if_neg (by omega), if_neg (by omega)]
  congr 1
  rw [show (8 + 23 : ℕ) = 31 from rfl, e3]
  simp
  rw [show ((n : ℤ) - 127 : ℤ) = ((n : ℤ) - 127 - 23) + 23 by ring, zpow_add₀ (by norm_num)]
  norm_num
  ring

/-- The same with the pattern written as a number. -/
theorem ofBits_field (b : BitVec 32) (n : ℕ) (h1 : 1 ≤ n) (h2 : n ≤ 254) (hb : b.toNat = n * 8388608) :
    Ideal.ofBits .f32 b = (((2 : ℝ) ^ ((n : ℤ) - 127) : ℝ) : EReal) := by
  refine ieee_field b n h1 h2 ?_ ?_ (BitVec.eq_of_toNat_eq ?_)
  · rw [BitVec.extractLsb'_toNat, hb, Nat.shiftRight_eq_div_pow]; omega
  · rw [BitVec.extractLsb'_toNat, hb, Nat.shiftRight_eq_div_pow]; omega
  · rw [BitVec.extractLsb'_toNat, hb, Nat.shiftRight_eq_div_pow]
    show _ = 0
    omega

theorem shli_field (e : BitVec 32) (n : ℕ) (h2 : n ≤ 254) (he : e = BitVec.ofNat 32 n) :
    (IntOp.shli .vector e 23#32).toNat = n * 8388608 := by
  have h23 : (23#32).toNat = 23 := rfl
  have hn : e.toNat = n := by rw [he, BitVec.toNat_ofNat]; omega
  unfold IntOp.shli
  rw [h23, if_pos (by omega), BitVec.shiftLeft_eq', h23, BitVec.toNat_shiftLeft, hn, Nat.shiftLeft_eq]
  omega

/-- `pow2` at an exponent in range. -/
theorem pow2_eq (e : BitVec 32) (n : ℕ) (h1 : 1 ≤ n) (h2 : n ≤ 254) (he : e + 127#32 = BitVec.ofNat 32 n) :
    pow2 e = (((2 : ℝ) ^ ((n : ℤ) - 127) : ℝ) : EReal) :=
  ofBits_field _ n h1 h2 (shli_field _ n h2 he)

/-- The power at a trial field. -/
theorem pow2_trial (t : BitVec 32) (h1 : 1 ≤ t.toNat) (h2 : t.toNat ≤ 255) :
    pow2 (IntOp.subi (IntOp.minsi t 247#32) 127#32) = (((2 : ℝ) ^ (((min t.toNat 247 : ℕ) : ℤ) - 127) : ℝ) : EReal) := by
  apply pow2_eq _ _ (by omega) (by omega)
  have : IntOp.minsi t 247#32 = BitVec.ofNat 32 (min t.toNat 247) := by
    have ht : t.toInt = t.toNat := by rw [BitVec.toInt_eq_toNat_cond]; split <;> omega
    have h247 : (247#32).toInt = 247 := by decide
    unfold IntOp.minsi
    simp only [BitVec.sle, BitVec.slt, ht, h247]
    apply BitVec.eq_of_toNat_eq
    split <;> rename_i hh <;> simp at hh ⊢ <;> omega
  show IntOp.minsi t 247#32 - 127#32 + 127#32 = _
  rw [this, BitVec.sub_add_cancel]

/-- One step of the search. -/
theorem step_spec (x : EReal) (B : ℕ)
    (hB : ∀ t : BitVec 32, 1 ≤ t.toNat → t.toNat ≤ 255 → (pow2 (IntOp.subi (IntOp.minsi t 247#32) 127#32) ≤ x ↔ t.toNat ≤ B))
    (b bit : BitVec 32) (w : ℕ) (hw : bit.toNat = w) (w1 : 1 ≤ w) (h1 : b.toNat ≤ B) (h2 : B < b.toNat + 2 * w) (h3 : b.toNat + 2 * w ≤ 256) :
    (step x b bit).toNat ≤ B ∧ B < (step x b bit).toNat + w ∧ (step x b bit).toNat + w ≤ 256 := by
  have hs : (b + bit).toNat = b.toNat + w := by rw [BitVec.toNat_add, hw]; omega
  have := hB (b + bit) (by omega) (by omega)
  have e : step x b bit = if (b + bit).toNat ≤ B then b + bit else b := by
    unfold step
    rw [Scalar.select_ofBool]
    by_cases hc : (b + bit).toNat ≤ B
    · rw [if_pos hc]; exact if_pos (decide_eq_true (this.2 hc))
    · rw [if_neg hc]; exact if_neg (fun h => hc (this.1 (of_decide_eq_true h)))
  rw [e]
  split <;> omega

/-- The search finds the greatest field. -/
theorem field_spec (x : EReal) (B : ℕ) (hB' : B ≤ 255)
    (hB : ∀ t : BitVec 32, 1 ≤ t.toNat → t.toNat ≤ 255 → (pow2 (IntOp.subi (IntOp.minsi t 247#32) 127#32) ≤ x ↔ t.toNat ≤ B)) :
    field x = BitVec.ofNat 32 B := by
  obtain ⟨a0, b0, c0⟩ := step_spec x B hB 0#32 128#32 128 rfl (by omega) (by simp) (by simp; omega) (by simp)
  obtain ⟨a1, b1, c1⟩ := step_spec x B hB _ 64#32 64 rfl (by omega) a0 (by omega) (by omega)
  obtain ⟨a2, b2, c2⟩ := step_spec x B hB _ 32#32 32 rfl (by omega) a1 (by omega) (by omega)
  obtain ⟨a3, b3, c3⟩ := step_spec x B hB _ 16#32 16 rfl (by omega) a2 (by omega) (by omega)
  obtain ⟨a4, b4, c4⟩ := step_spec x B hB _ 8#32 8 rfl (by omega) a3 (by omega) (by omega)
  obtain ⟨a5, b5, c5⟩ := step_spec x B hB _ 4#32 4 rfl (by omega) a4 (by omega) (by omega)
  obtain ⟨a6, b6, c6⟩ := step_spec x B hB _ 2#32 2 rfl (by omega) a5 (by omega) (by omega)
  obtain ⟨a7, b7, c7⟩ := step_spec x B hB _ 1#32 1 rfl (by omega) a6 (by omega) (by omega)
  apply BitVec.eq_of_toNat_eq
  rw [BitVec.toNat_ofNat]
  unfold field
  omega

end Cert.Spec

end
-- ==== Proof.ExponentFound.lean ====
/-
  The exponent that the search finds is the one of `expo`: the greatest field exists, and the powers of two agree.
-/
module

public import proofs.«01_k».proof.Proof.Exponent

@[expose] public section

noncomputable section

namespace Cert.Spec

open Idealize.ShloMosaic

theorem ori_ofBool (p q : Bool) : IntOp.ori (BitVec.ofBool p) (BitVec.ofBool q) = BitVec.ofBool (p || q) := by
  cases p <;> cases q <;> rfl

theorem least_normal : Ideal.ofBits .f32 0x00800000#32 = (((2 : ℝ) ^ (-126 : ℤ) : ℝ) : EReal) :=
  ofBits_field _ 1 (by omega) (by omega) rfl

theorem bound : Ideal.ofBits .f32 0x7B800000#32 = (((2 : ℝ) ^ (120 : ℤ) : ℝ) : EReal) :=
  ofBits_field _ 247 (by omega) (by omega) rfl

theorem cand_eq (k : Fin 246) : cand k = ((((k.val : ℤ) - 125 : ℤ) : ℝ) : EReal) := by
  have : (IntOp.subi (BitVec.ofNat 32 k.val) 125#32).toInt = (k.val : ℤ) - 125 := by
    show (BitVec.ofNat 32 k.val - 125#32).toInt = _
    have := k.isLt
    have h125 : (125#32).toInt = 125 := rfl
    have hk : (BitVec.ofNat 32 k.val).toInt = k.val := by
      rw [BitVec.toInt_eq_toNat_cond, BitVec.toNat_ofNat]; split <;> omega
    rw [BitVec.toInt_sub, hk, h125]
    simp only [Int.bmod_def]
    omega
  show (((IntOp.subi (BitVec.ofNat 32 k.val) 125#32).toInt : ℝ) : EReal) = _
  rw [this]

theorem exp2_int (k : ℤ) : Ideal.exp2 (((k : ℝ) : ℝ) : EReal) = (((2 : ℝ) ^ k : ℝ) : EReal) := by
  show ((Real.rpow 2 (k : ℝ) : ℝ) : EReal) = _
  congr 1
  exact Real.rpow_intCast 2 k

/-- The greatest field of a value not below zero, and the exponent of `expo` in terms of it. -/
theorem exists_field (x : EReal) (hx : 0 ≤ x) : ∃ B : ℕ, B ≤ 255 ∧
    (∀ t : BitVec 32, 1 ≤ t.toNat → t.toNat ≤ 255 → (pow2 (IntOp.subi (IntOp.minsi t 247#32) 127#32) ≤ x ↔ t.toNat ≤ B))
    ∧ (B = 0 ∨ B = 255 → expo x = 0) ∧ (1 ≤ B → B < 255 → B ≤ 246 ∧ expo x = ((((B : ℤ) - 126 : ℤ) : ℝ) : EReal)) := by
  have mono : ∀ a b : ℤ, a ≤ b → (((2 : ℝ) ^ a : ℝ) : EReal) ≤ (((2 : ℝ) ^ b : ℝ) : EReal) := fun a b h =>
    EReal.coe_le_coe_iff.2 (zpow_le_zpow_right₀ (by norm_num) h)
  by_cases h1 : x < (((2 : ℝ) ^ (-126 : ℤ) : ℝ) : EReal)
  · refine ⟨0, by omega, fun t t1 t2 => ?_, fun _ => ?_, fun h => absurd h (by omega)⟩
    · rw [pow2_trial t t1 t2]
      constructor
      · intro h; exact absurd (lt_of_le_of_lt ((mono (-126) _ (by omega)).trans h) h1) (lt_irrefl _)
      · intro h; omega
    · unfold expo
      rw [least_normal, decide_eq_true h1, ori_ofBool, Scalar.select_ofBool]
      rfl
  by_cases h2 : (((2 : ℝ) ^ (120 : ℤ) : ℝ) : EReal) ≤ x
  · refine ⟨255, by omega, fun t t1 t2 => ?_, fun _ => ?_, fun _ h => absurd h (by omega)⟩
    · rw [pow2_trial t t1 t2]
      exact ⟨fun _ => t2, fun _ => (mono _ _ (by omega)).trans h2⟩
    · unfold expo
      rw [least_normal, bound, decide_eq_false h1, decide_eq_true h2, ori_ofBool, Scalar.select_ofBool]
      rfl
  have hlt := not_le.1 h2
  have hle := not_lt.1 h1
  classical
  set p : ℕ → Prop := fun n => (((2 : ℝ) ^ ((n : ℤ) - 127) : ℝ) : EReal) ≤ x with hp
  have p1 : p 1 := hle
  set B := Nat.findGreatest p 246 with hBdef
  have hB1 : 1 ≤ B := Nat.le_findGreatest (by omega) p1
  have hB2 : B ≤ 246 := Nat.findGreatest_le 246
  have hpB : p B := Nat.findGreatest_spec (by omega) p1
  have hnot : ∀ n, B < n → n ≤ 246 → ¬ p n := fun n a b => Nat.findGreatest_is_greatest a b
  have hup : x < (((2 : ℝ) ^ ((B : ℤ) - 126) : ℝ) : EReal) := by
    rcases Nat.lt_or_ge B 246 with h | h
    · have := not_le.1 (hnot (B + 1) (by omega) (by omega))
      rwa [show (((B + 1 : ℕ) : ℤ) - 127) = (B : ℤ) - 126 by push_cast; ring] at this
    · rw [show ((B : ℤ) - 126) = 120 by omega]; exact hlt
  refine ⟨B, by omega, fun t t1 t2 => ?_, fun h => absurd h (by omega), fun _ _ => ⟨hB2, ?_⟩⟩
  · rw [pow2_trial t t1 t2]
    constructor
    · intro h
      by_contra hc
      exact absurd (lt_of_le_of_lt ((mono _ _ (by omega)).trans h) hup) (lt_irrefl _)
    · intro h
      exact (mono _ _ (by omega)).trans hpB
  · unfold expo
    rw [least_normal, bound, decide_eq_false h1, decide_eq_false h2, ori_ofBool, Scalar.select_ofBool, Bool.or_false, if_neg (by decide)]
    have h128 : Ideal.ofBits .f32 0x43000000#32 = ((128 : ℝ) : EReal) := by
      rw [ofBits_field 0x43000000#32 134 (by omega) (by omega) rfl]; norm_num
    apply le_antisymm
    · refine (Finset.fold_min_le _).2 (Or.inr ⟨⟨B - 1, by omega⟩, Finset.mem_univ _, ?_⟩)
      have e : (((B - 1 : ℕ) : ℤ) - 125) = (B : ℤ) - 126 := by omega
      simp only [cand_eq, exp2_int]
      rw [e, if_pos hup]
    · refine (Finset.le_fold_min _).2 ⟨?_, fun k _ => ?_⟩
      · rw [show Ideal.ofBits .f32 0x7F800000#32 = (⊤ : EReal) by simp [Ideal.ofBits, Ideal.ieee]]; exact le_top
      · simp only [cand_eq, exp2_int, h128]
        have hk := k.isLt
        split
        · rename_i hh
          apply EReal.coe_le_coe_iff.2
          apply Int.cast_le.2
          by_contra hc
          exact absurd (lt_of_lt_of_le hh ((mono _ _ (by omega)).trans hpB)) (lt_irrefl _)
        · apply EReal.coe_le_coe_iff.2
          have : ((B : ℤ) - 126) ≤ 128 := by omega
          exact_mod_cast this

/-- The search's exponent gives the power of two that `expo` names, and so does its negative. -/
theorem pow2_found (x : EReal) (hx : 0 ≤ x) :
    pow2 (found x) = Ideal.exp2 (expo x) ∧ pow2 (IntOp.subi 0#32 (found x)) = Ideal.exp2 (0 - expo x) := by
  obtain ⟨B, hB, ht, he0, he1⟩ := exists_field x hx
  have hf := field_spec x B hB ht
  have one : ∀ e : BitVec 32, e = 0#32 → pow2 e = Ideal.exp2 0 := by
    rintro _ rfl
    rw [pow2_eq 0#32 127 (by omega) (by omega) rfl, show (0 : EReal) = (((0 : ℤ) : ℝ) : EReal) by simp, exp2_int]
    norm_num
  by_cases hc : B = 0 ∨ B = 255
  · have hfd : found x = 0#32 := by
      unfold found; rw [hf]
      rcases hc with rfl | rfl <;> rfl
    rw [hfd, he0 hc]
    refine ⟨one _ rfl, ?_⟩
    rw [show IntOp.subi 0#32 0#32 = 0#32 from rfl, one _ rfl]; simp
  · have hr : 1 ≤ B ∧ B < 255 := by omega
    obtain ⟨h246, hex⟩ := he1 hr.1 hr.2
    have hfd : found x = BitVec.ofNat 32 B - 126#32 := by
      unfold found; rw [hf]
      have a1 : ¬ BitVec.ofNat 32 B = 0#32 := fun h => by have := congrArg BitVec.toNat h; simp at this; omega
      have a2 : ¬ BitVec.ofNat 32 B = 255#32 := fun h => by have := congrArg BitVec.toNat h; simp at this; omega
      have b1 : IntOp.cmpi .eq (BitVec.ofNat 32 B) 0#32 = 0#1 := by simp only [IntOp.cmpi]; rw [beq_eq_false_iff_ne.2 a1]; rfl
      have b2 : IntOp.cmpi .eq (BitVec.ofNat 32 B) 255#32 = 0#1 := by simp only [IntOp.cmpi]; rw [beq_eq_false_iff_ne.2 a2]; rfl
      rw [b1, b2]
      rfl
    rw [hfd, hex]
    constructor
    · rw [exp2_int, pow2_eq _ (B + 1) (by omega) (by omega)]
      · congr 2; push_cast; ring
      · apply BitVec.eq_of_toNat_eq; simp; omega
    · rw [show (0 : EReal) - ((((B : ℤ) - 126 : ℤ) : ℝ) : EReal) = (((126 - (B : ℤ) : ℤ) : ℝ) : EReal) by
        rw [show (0 : EReal) = ((0 : ℝ) : EReal) from rfl, ← EReal.coe_sub]; congr 1; push_cast; ring]
      rw [exp2_int, pow2_eq _ (253 - B) (by omega) (by omega)]
      · congr 2; push_cast [Nat.cast_sub (show B ≤ 253 by omega)]; ring
      · show 0#32 - (BitVec.ofNat 32 B - 126#32) + 127#32 = _
        apply BitVec.eq_of_toNat_eq; simp; omega

end Cert.Spec

end
-- ==== Proof.Rows.lean ====
/-
  Reductions of a matrix along its rows, read at a row: the fold or the sum over the row's entries.
-/
module

public import Idealize.ShloMosaic.Lib.Pointwise

@[expose] public section

noncomputable section

namespace Cert.Spec

open Idealize.ShloMosaic

variable {R C : ℕ}

/-- The index that a row reduction reads at row `r` and place `c`. -/
theorem lift_row (h : Shape.Reduces ⟨2, ![R, C]⟩ [1] ⟨1, ![R]⟩) (r : Fin R) (c : Fin C) :
    h.lift (a := 1) (ix1 r) c = ix2 r c := by
  funext b
  apply Fin.ext
  refine (h.lift_val (a := 1) (ix1 r) c b).trans ?_
  fin_cases b
  · rfl
  · rfl

/-- The greatest entry of a row. -/
theorem max_row (h : Shape.Reduces ⟨2, ![R, C]⟩ [1] ⟨1, ![R]⟩) (src : FVec Ideal ⟨2, ![R, C]⟩ .f32) (acc : BitVec 32)
    (hφ : FKind.Formats .f32) (hacc : acc = FKind.maximumf.neutral .f32 hφ) (r : Fin R) :
    multiReduction (F := Ideal) (φ := .f32) .maximumf [1] ⟨1, ![R]⟩ src acc h hφ hacc (ix1 r)
      = Finset.fold max (Ideal.ofBits .f32 acc) (fun c : Fin C => src (ix2 r c)) Finset.univ := by
  refine (Ideal.multiReduction_maximumf_single src acc h hφ hacc (ix1 r)).trans ?_
  refine Finset.fold_congr fun c _ => ?_
  exact congrArg src (lift_row h r c)

/-- The least entry of a row. -/
theorem min_row (h : Shape.Reduces ⟨2, ![R, C]⟩ [1] ⟨1, ![R]⟩) (src : FVec Ideal ⟨2, ![R, C]⟩ .f32) (acc : BitVec 32)
    (hφ : FKind.Formats .f32) (hacc : acc = FKind.minimumf.neutral .f32 hφ) (r : Fin R) :
    multiReduction (F := Ideal) (φ := .f32) .minimumf [1] ⟨1, ![R]⟩ src acc h hφ hacc (ix1 r)
      = Finset.fold min (Ideal.ofBits .f32 acc) (fun c : Fin C => src (ix2 r c)) Finset.univ := by
  refine (multiReduction_minimumf_eq_fold src acc h hφ hacc (ix1 r)).trans ?_
  refine (h.fold_filter_drop_single _ _ src (ix1 r)).trans ?_
  refine Finset.fold_congr fun c _ => ?_
  exact congrArg src (lift_row h r c)

/-- The sum of a row. -/
theorem sum_row (h : Shape.Reduces ⟨2, ![R, C]⟩ [1] ⟨1, ![R]⟩) (src : FVec Ideal ⟨2, ![R, C]⟩ .f32) (acc : BitVec 32)
    (hφ : FKind.Formats .f32) (hacc : acc = FKind.add.neutral .f32 hφ) (r : Fin R) :
    multiReduction (F := Ideal) (φ := .f32) .add [1] ⟨1, ![R]⟩ src acc h hφ hacc (ix1 r) = ∑ c : Fin C, src (ix2 r c) := by
  refine (Ideal.multiReduction_add_single src acc h hφ hacc (ix1 r)).trans ?_
  refine Finset.sum_congr rfl fun c _ => ?_
  exact congrArg src (lift_row h r c)

end Cert.Spec

end
-- ==== Proof.LoopAt.lean ====
/-
  The values of `Loop`'s functions at an index, over the extended reals: they are those of `Spec`.
-/
module

public import proofs.«01_k».proof.Proof.Loop
public import proofs.«01_k».proof.Proof.ExponentFound
public import proofs.«01_k».proof.Proof.Rows

@[expose] public section

noncomputable section

namespace Cert.KernelIdeal.Loop

open Cert.KernelIdeal Cert.KernelIdeal.Gen Idealize.ShloMosaic

/-- Column `j` of tile `p`. -/
def col (p : Fin 10) (j : Fin 512) : Fin 5120 := ⟨512 * p.val + j.val, by omega⟩

/-- Every column is a column of a tile. -/
theorem exists_col (c : Fin 5120) : ∃ p j, col p j = c :=
  ⟨⟨c.val / 512, by omega⟩, ⟨c.val % 512, by omega⟩, Fin.ext (by show 512 * (c.val / 512) + c.val % 512 = c.val; omega)⟩

/-- The columns of a tile that lane `l` holds. -/
def lane (l : Fin 128) (s : Fin 4) : Fin 512 := ⟨128 * s.val + l.val, by omega⟩

/-- A sum over the columns, in the order of lanes, tiles and groups. -/
theorem sum_lanes (f : Fin 5120 → EReal) : (∑ l : Fin 128, ∑ p : Fin 10, ∑ s : Fin 4, f (col p (lane l s))) = ∑ c, f c := by
  have e : ∀ l : Fin 128, (∑ p : Fin 10, ∑ s : Fin 4, f (col p (lane l s))) = ∑ q : Fin 10 × Fin 4, f (col q.1 (lane l q.2)) := fun l =>
    (Fintype.sum_prod_type' (fun p s => f (col p (lane l s)))).symm
  simp only [e]
  rw [← Fintype.sum_prod_type' (fun (l : Fin 128) (q : Fin 10 × Fin 4) => f (col q.1 (lane l q.2)))]
  refine Fintype.sum_bijective (fun x : Fin 128 × Fin 10 × Fin 4 => col x.2.1 (lane x.1 x.2.2)) ⟨?_, ?_⟩ _ _ fun _ => rfl
  · rintro ⟨l, p, s⟩ ⟨l', p', s'⟩ h
    have h : 512 * p.val + (128 * s.val + l.val) = 512 * p'.val + (128 * s'.val + l'.val) := congrArg Fin.val h
    have hl : l = l' := Fin.ext (by omega)
    have hp : p = p' := Fin.ext (by omega)
    have hs : s = s' := Fin.ext (by omega)
    rw [hl, hp, hs]
  · intro c
    refine ⟨⟨⟨c.val % 128, by omega⟩, ⟨c.val / 512, by omega⟩, ⟨c.val % 512 / 128, by omega⟩⟩, Fin.ext ?_⟩
    show 512 * (c.val / 512) + (128 * (c.val % 512 / 128) + c.val % 128) = c.val
    omega

theorem total_at (v : Vec Ideal S32x128 .f32) (a : Fin 32) : total v (ix1 a) = ∑ l : Fin 128, v (ix2 a l) :=
  Spec.sum_row reduces_S32x128_S32 v 0x00000000#32 (.inl rfl) rfl a

theorem invOf_at (v : FVec Ideal S32 .f32) (a : Fin 32) :
    invOf v (ix2 a 0) = Ideal.rsqrt (Ideal.div (v (ix1 a)) (Ideal.ofBits .f32 0x45A00000#32) + Ideal.ofBits .f32 0x3727C5AC#32) := by
  pointwise [invOf]

theorem norm_at (r : FVec Ideal S32x1 .f32) (s : Vec Ideal S1x32x512 .bf16) (g : Vec Ideal S1x512 .f32) (a : Fin 32) (j : Fin 512) :
    norm r s g (ix2 a j) = s (ix3 0 a j) * r (ix2 a 0) * g (ix2 0 j) := by
  pointwise [norm]

theorem big_at (n : FVec Ideal S32x512 .f32) (a : Fin 32) :
    big n (ix1 a) = Finset.fold max (Ideal.ofBits .f32 0xFF800000#32) (fun j : Fin 512 => max (n (ix2 a j)) (-(n (ix2 a j)))) Finset.univ :=
  (Spec.max_row reduces_S32x512_S32 (absf n) 0xFF800000#32 (.inl rfl) rfl a).trans (Finset.fold_congr fun _ _ => rfl)

theorem up_at (m : FVec Ideal S32x1 .f32) (b : FVec Ideal S32 .f32) (a : Fin 32) : up m b (ix2 a 0) = max (m (ix2 a 0)) (b (ix1 a)) := by
  pointwise [up]

theorem zero_at (a : Fin 32) : zero (F := Ideal) (ix2 a 0) = Ideal.ofBits .f32 0x00000000#32 := by
  pointwise [zero]

theorem over_at (m : FVec Ideal S32x1 .f32) (a : Fin 32) (l : Fin 128) :
    over m (ix2 a l) = m (ix2 a 0) * Ideal.ofBits .f32 0x3B124925#32 := by
  pointwise [over]

theorem trial_at (x : FVec Ideal S32x128 .f32) (b : IVec S32x128 32) (bit : BitVec 32) (a : Fin 32) (l : Fin 128) :
    trial x b bit (ix2 a l) = Spec.step (x (ix2 a l)) (b (ix2 a l)) bit := by
  unfold Spec.step Spec.pow2
  pointwise [trial]

theorem field_at (x : FVec Ideal S32x128 .f32) (a : Fin 32) (l : Fin 128) : field x (ix2 a l) = Spec.field (x (ix2 a l)) := by
  unfold field Spec.field
  simp only [trial_at]
  rfl

theorem expoOf_at (f : IVec S32x128 32) (a : Fin 32) (l : Fin 128) :
    expoOf f (ix2 a l) = Scalar.select (IntOp.ori (IntOp.cmpi .eq (f (ix2 a l)) 0#32) (IntOp.cmpi .eq (f (ix2 a l)) 255#32)) 0#32
      (IntOp.subi (f (ix2 a l)) 126#32) := by
  pointwise [expoOf]

theorem found_at (x : FVec Ideal S32x128 .f32) (a : Fin 32) (l : Fin 128) : expoOf (field x) (ix2 a l) = Spec.found (x (ix2 a l)) := by
  rw [expoOf_at, field_at]
  rfl

theorem power_at (e : IVec S32x128 32) (a : Fin 32) : power (F := Ideal) e (ix2 a 0) = Spec.pow2 (e (ix2 a 0)) := by
  unfold Spec.pow2
  pointwise [power]

theorem scale_at (x : FVec Ideal S32x128 .f32) (a : Fin 32) (hx : 0 ≤ x (ix2 a 0)) :
    scale x (ix2 a 0) = Ideal.exp2 (Spec.expo (x (ix2 a 0))) := by
  unfold scale
  rw [power_at, found_at]
  exact (Spec.pow2_found _ hx).1

theorem back_at (x : FVec Ideal S32x128 .f32) (a : Fin 32) (hx : 0 ≤ x (ix2 a 0)) :
    back x (ix2 a 0) = Ideal.exp2 (0 - Spec.expo (x (ix2 a 0))) := by
  unfold back
  rw [power_at]
  show Spec.pow2 (IntOp.subi 0#32 (expoOf (field x) (ix2 a 0))) = _
  rw [found_at]
  exact (Spec.pow2_found _ hx).2

theorem code_at (n : FVec Ideal S32x512 .f32) (b : FVec Ideal S32x1 .f32) (a : Fin 32) (j : Fin 512) :
    code n b (ix2 a j) = min (Ideal.ofBits .f32 0x43E00000#32) (max (Ideal.ofBits .f32 0xC3E00000#32) (n (ix2 a j) * b (ix2 a 0))) := by
  pointwise [code]

/-- The running maximum of ten tiles' maxima, started at zero, is the maximum of the row. -/
theorem top_at (n : Fin 10 → FVec Ideal S32x512 .f32) (m : Fin 5120 → EReal) (a : Fin 32) (hn : ∀ p j, n p (ix2 a j) = m (col p j)) :
    top (fun p => big (n p)) (ix2 a 0) = Finset.fold max (Ideal.ofBits .f32 0xFF800000#32) (fun c => max (m c) (-(m c))) Finset.univ := by
  have hbot : Ideal.ofBits .f32 0xFF800000#32 = (⊥ : EReal) := by simp [Ideal.ofBits, Ideal.ieee]
  have h0 : Ideal.ofBits .f32 0x00000000#32 = (0 : EReal) := by simp [Ideal.ofBits, Ideal.ieee]
  have hb : ∀ p, big (n p) (ix1 a) = Finset.fold max (⊥ : EReal) (fun j : Fin 512 => max (m (col p j)) (-(m (col p j)))) Finset.univ := by
    intro p
    rw [big_at, hbot]
    exact Finset.fold_congr fun j _ => by rw [hn]
  have hle : ∀ y : EReal, (∀ p, big (n p) (ix1 a) ≤ y) ↔ ∀ c, max (m c) (-(m c)) ≤ y := by
    intro y
    constructor
    · intro h c
      obtain ⟨p, j, rfl⟩ := exists_col c
      have := h p
      rw [hb, Finset.fold_max_le] at this
      exact this.2 j (Finset.mem_univ _)
    · intro h p
      rw [hb, Finset.fold_max_le]
      exact ⟨bot_le, fun j _ => h _⟩
  have hpos : 0 ≤ max (m 0) (-(m 0)) := by
    rcases le_total 0 (m 0) with h | h
    · exact le_max_of_le_left h
    · exact le_max_of_le_right (by simpa using EReal.neg_le_neg_iff.2 h)
  refine eq_of_forall_ge_iff fun y => ?_
  rw [hbot, Finset.fold_max_le]
  unfold top
  simp only [up_at, zero_at, h0, max_le_iff]
  constructor
  · rintro ⟨⟨⟨⟨⟨⟨⟨⟨⟨⟨_, b0⟩, b1⟩, b2⟩, b3⟩, b4⟩, b5⟩, b6⟩, b7⟩, b8⟩, b9⟩
    refine ⟨bot_le, fun c _ => ?_⟩
    rw [← max_le_iff]
    exact (hle y).1 (fun p => match p with
      | 0 => b0 | 1 => b1 | 2 => b2 | 3 => b3 | 4 => b4 | 5 => b5 | 6 => b6 | 7 => b7 | 8 => b8 | 9 => b9) c
  · rintro ⟨_, h⟩
    have h' : ∀ c, max (m c) (-(m c)) ≤ y := fun c => max_le_iff.2 (h c (Finset.mem_univ _))
    have hp := (hle y).2 h'
    exact ⟨⟨⟨⟨⟨⟨⟨⟨⟨⟨hpos.trans (h' 0), hp 0⟩, hp 1⟩, hp 2⟩, hp 3⟩, hp 4⟩, hp 5⟩, hp 6⟩, hp 7⟩, hp 8⟩, hp 9⟩

section Trip

variable (v : Vec Ideal S32x128 .f32) (s : Fin 10 → Vec Ideal S1x32x512 .bf16) (g : Fin 10 → Vec Ideal S1x512 .f32)
  (h G : Fin 5120 → EReal) (a : Fin 32)

theorem inv_at (hv : ∀ l, v (ix2 a l) = ∑ p : Fin 10, ∑ q : Fin 4, h (col p (lane l q)) * h (col p (lane l q))) :
    inv v (ix2 a 0) = Ideal.rsqrt (Ideal.div (∑ c, h c * h c) (Ideal.ofBits .f32 0x45A00000#32) + Ideal.ofBits .f32 0x3727C5AC#32) := by
  unfold inv
  rw [invOf_at, total_at, Finset.sum_congr rfl (fun l _ => hv l), sum_lanes (fun c => h c * h c)]

variable (hv : ∀ l, v (ix2 a l) = ∑ p : Fin 10, ∑ q : Fin 4, h (col p (lane l q)) * h (col p (lane l q)))
  (hs : ∀ p j, s p (ix3 0 a j) = h (col p j)) (hg : ∀ p j, g p (ix2 0 j) = G (col p j))

include hv hs hg

theorem norms_at (p : Fin 10) (j : Fin 512) : norms v s g p (ix2 a j) = Spec.normed h G (col p j) := by
  unfold norms Spec.normed
  rw [norm_at, inv_at v h a hv, hs, hg]

theorem overs_at : overs v s g (ix2 a 0) = Spec.over (Spec.normed h G) := by
  unfold overs Spec.over
  rw [over_at, top_at (norms v s g) (Spec.normed h G) a (norms_at v s g h G a hv hs hg)]

/-- The trip's scales. -/
theorem scales_at : scale (overs v s g) (ix2 a 0) = Spec.scale (Spec.normed h G) := by
  have e := overs_at v s g h G a hv hs hg
  rw [scale_at _ a (by rw [e]; exact Spec.over_nonneg _), e]
  rfl

/-- The trip's codes. -/
theorem codes_at (p : Fin 10) (j : Fin 512) : codes v s g p (ix2 a j) = Spec.code (Spec.normed h G) (Spec.normed h G (col p j)) := by
  have e := overs_at v s g h G a hv hs hg
  unfold codes
  rw [code_at, norms_at v s g h G a hv hs hg, back_at _ a (by rw [e]; exact Spec.over_nonneg _), e]
  rfl

end Trip

end Cert.KernelIdeal.Loop

end
-- ==== Proof.Blocks.lean ====
/-
  The windows' blocks at an index: which array element a window's block has at each grid point, and at which points the
  windows of the results are written back.
-/
module

public import proofs.«01_k».proof.Proof.KernelIdealFrame
public import proofs.«01_k».proof.Proof.LoopAt
public import Idealize.ShloMosaic.Lib.Pipeline.ValueKit
public import Idealize.ShloMosaic.Lib.Pipeline.ArrRel

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

open Cert.KernelIdeal.Loop (col lane)

variable {F : FTy → Type} [FloatOps F]
variable (m : (ℓ : Loc nD τ sig) → Buf (Elt F) ℓ)

/-- The index maps that stay at the array's start. -/
theorem still_0 (i : grid0.Coords) : cc0_transform_0 i = ![0, 0] := rfl
theorem still_1 (i : grid0.Coords) : cc0_transform_1 i = ![0, 0] := rfl
theorem still_5 (i : grid0.Coords) : cc0_transform_5 i = ![0, 0] := rfl
theorem still_7 (i : grid0.Coords) : cc0_transform_7 i = ![0, 0] := rfl
theorem still_8 (i : grid0.Coords) : cc0_transform_8 i = ![0, 0] := rfl

/-- The index maps that move along the columns with the grid. -/
theorem moves (t : Fin grid0.N) : cc0_transform_2 (grid0.coords t) = ![0, t.val] := by
  rcases fin_N0 t with h | h | h | h | h | h | h | h | h | h <;> subst h <;> decide

/-- The first operand, whole. -/
theorem xBlk_at (c : Dev nD) (t : Fin grid0.N) (r : Fin 1024) (k : Fin 4096) : xBlk m c t (ix2 r k) = V m c main_v0 (ix2 r k) := by
  refine congrArg (V m c main_v0) (funext fun a => Fin.ext ?_)
  refine (Pipeline.Window.rect_emb_val (win0 (adm m 0) 0) t (ix2 r k) a).trans ?_
  show cc0_transform_0 (grid0.coords t) a * _ + _ = _
  rw [still_0]
  fin_cases a
  exacts [Nat.zero_add _, Nat.zero_add _]

/-- The rows' scales, whole. -/
theorem xsBlk_at (c : Dev nD) (t : Fin grid0.N) (r : Fin 1024) : xsBlk m c t (ix2 r 0) = V m c main_v1 (ix2 r 0) := by
  refine congrArg (V m c main_v1) (funext fun a => Fin.ext ?_)
  refine (Pipeline.Window.rect_emb_val (win0 (adm m 0) 1) t (ix2 r 0) a).trans ?_
  show cc0_transform_1 (grid0.coords t) a * _ + _ = _
  rw [still_1]
  fin_cases a
  exacts [Nat.zero_add _, Nat.zero_add _]

/-- The gains, whole. -/
theorem gBlk_at (c : Dev nD) (t : Fin grid0.N) (k : Fin 5120) : gBlk m c t (ix2 0 k) = V m c main_v4 (ix2 0 k) := by
  refine congrArg (V m c main_v4) (funext fun a => Fin.ext ?_)
  refine (Pipeline.Window.rect_emb_val (win0 (adm m 0) 5) t (ix2 0 k) a).trans ?_
  show cc0_transform_5 (grid0.coords t) a * _ + _ = _
  rw [still_5]
  fin_cases a
  exacts [Nat.zero_add _, Nat.zero_add _]

/-- The second operand's columns of the tile. -/
theorem wBlk_at (c : Dev nD) (t : Fin grid0.N) (u : Fin 10) (hu : u.val = t.val) (r : Fin 4096) (j : Fin 512) :
    wBlk m c t (ix2 r j) = V m c main_arg2 (ix2 r (col u j)) := by
  refine congrArg (V m c main_arg2) (funext fun a => Fin.ext ?_)
  refine (Pipeline.Window.rect_emb_val (win0 (adm m 0) 2) t (ix2 r j) a).trans ?_
  show cc0_transform_2 (grid0.coords t) a * _ + _ = _
  rw [show cc0_transform_2 (grid0.coords t) = ![0, t.val] from moves t]
  fin_cases a
  · exact Nat.zero_add _
  · show t.val * 512 + j.val = 512 * u.val + j.val
    omega

/-- The columns' scales of the tile. -/
theorem wsBlk_at (c : Dev nD) (t : Fin grid0.N) (u : Fin 10) (hu : u.val = t.val) (j : Fin 512) :
    wsBlk m c t (ix2 0 j) = V m c main_v2 (ix2 0 (col u j)) := by
  refine congrArg (V m c main_v2) (funext fun a => Fin.ext ?_)
  refine (Pipeline.Window.rect_emb_val (win0 (adm m 0) 3) t (ix2 0 j) a).trans ?_
  show cc0_transform_3 (grid0.coords t) a * _ + _ = _
  rw [show cc0_transform_3 (grid0.coords t) = ![0, t.val] from moves t]
  fin_cases a
  · exact Nat.zero_add _
  · show t.val * 512 + j.val = 512 * u.val + j.val
    omega

/-- The residual's columns of the tile. -/
theorem resBlk_at (c : Dev nD) (t : Fin grid0.N) (u : Fin 10) (hu : u.val = t.val) (r : Fin 1024) (j : Fin 512) :
    resBlk m c t (ix2 r j) = V m c main_v3 (ix2 r (col u j)) := by
  refine congrArg (V m c main_v3) (funext fun a => Fin.ext ?_)
  refine (Pipeline.Window.rect_emb_val (win0 (adm m 0) 4) t (ix2 r j) a).trans ?_
  show cc0_transform_4 (grid0.coords t) a * _ + _ = _
  rw [show cc0_transform_4 (grid0.coords t) = ![0, t.val] from moves t]
  fin_cases a
  · exact Nat.zero_add _
  · show t.val * 512 + j.val = 512 * u.val + j.val
    omega

/-- The first result's window is written back at every point. -/
theorem flush_h (t : Fin grid0.N) : (win0 (adm m 0) 6).flush t = true :=
  (Pipeline.Window.flush_reads (win0 (adm m 0) 6) rfl 0 (by decide) rfl (Pipeline.Window.sep_of_coord cc0_transform_6 0 1 (fun _ => rfl) (by decide))
    (P := 1) (m := 0) (by decide) rfl t).mpr (Nat.mod_one _)

/-- The codes' window is written back at the last point alone. -/
theorem flush_n (t : Fin grid0.N) : (win0 (adm m 0) 7).flush t = true ↔ t.val % 10 = 9 :=
  Pipeline.Window.flush_const (win0 (adm m 0) 7) rfl (fun _ _ => rfl) (n := 10) (by decide) rfl t

/-- The scales' window is written back at the last point alone. -/
theorem flush_ns (t : Fin grid0.N) : (win0 (adm m 0) 8).flush t = true ↔ t.val % 10 = 9 :=
  Pipeline.Window.flush_const (win0 (adm m 0) 8) rfl (fun _ _ => rfl) (n := 10) (by decide) rfl t

end Cert.KernelIdeal.Run

end
-- ==== Proof.Tiles.lean ====
/-
  The eight row tiles that a grid point computes and the lists of stores it makes of them: into the first result's
  block, into its slab of the stash, and into the partial sums of squares.
-/
module

public import proofs.«01_k».proof.Proof.Gen.KernelIdeal.Launch
public import proofs.«01_k».proof.Proof.Gen.KernelIdeal.Skeleton
public import Idealize.ShloMosaic.Lib.Pipeline.FrameBody

@[expose] public section

noncomputable section

namespace Cert.KernelIdeal.Run

open Cert.KernelIdeal Cert.KernelIdeal.Gen Idealize.ShloMosaic

variable {F : FTy → Type} [FloatOps F]

/-- A tile of the first result: the rows from position `p` on, of a batch element with `v15` valid rows. -/
def hblk (p : BitVec 32) (v0 : Vec F S128x4096 .fp8e4m3) (v2 : Vec F S4096x512 .fp8e4m3) (v4 : Vec F S128x1 .f32) (v8 : Vec F S1x512 .f32)
    (v15 : Elt F .i32) (v18 : Vec F S128x512 .bf16) : FVec F S128x512 .bf16 :=
  have v3 : FVec F S128x512 .f32 := matmul dot_S128x4096_S4096x512_S128x512_1_0_0_1_n_n none
    (shapeCast S128x4096 v0 shapeCasts_S128x4096_S128x4096) v2 (constant S128x512 .f32 0x00000000#32)
  have v6 : FVec F S128x512 .f32 := broadcastTo S128x512 (shapeCast S128x1 v4 shapeCasts_S128x1_S128x1) broadcasts_S128x1_S128x512
  have v10 : FVec F S128x512 .f32 := broadcastTo S128x512 (shapeCast S1x512 v8 shapeCasts_S1x512_S1x512) broadcasts_S1x512_S128x512
  have v17 : IVec S128x512 1 := cmpi .slt (addi (broadcast S128x512 p) (iota .tc S128x512 32 [0] iota_S128x512_d0_w32)) (broadcast S128x512 v15)
  have v20 : FVec F S128x512 .f32 := extf .f32 (shapeCast S128x512 v18 shapeCasts_S128x512_S128x512) bitsLt_bf16_f32
  truncf .bf16 (select v17 (addf v20 (mulf (mulf v3 v6) v10)) (broadcast S128x512 (Scalar.ofBits .f32 0x00000000#32))) bitsLt_bf16_f32

/-- The tile as a slab of the stash. -/
def slab (X : FVec F S128x512 .bf16) : FVec F S1x128x512 .bf16 := shapeCast S1x128x512 X shapeCasts_S128x512_S1x128x512

/-- The tile's squares, summed over its four groups of 128 columns. -/
def part (X : FVec F S128x512 .bf16) : FVec F S128x128 .f32 :=
  have v30 : FVec F S128x512 .f32 := extf .f32 X bitsLt_bf16_f32
  multiReduction .add [1] S128x128 (shapeCast S128x4x128 (mulf v30 v30) shapeCasts_S128x512_S128x4x128) 0x00000000#32 reduces_S128x4x128_S128x128 (.inl rfl) rfl

/-- A row group's earlier sums with a tile's added. -/
def added (x12 : S1024x128.Idx → Elt F .f32) (o : ℕ) (h : ∀ a : Fin 2, (![o, 0] : Fin 2 → ℕ) a + S128x128.size a ≤ S1024x128.size a)
    (P : FVec F S128x128 .f32) : FVec F S128x128 .f32 :=
  shapeCast S128x128 (addf (View.ld x12 (Rect.unit (s := S1024x128) ![o, 0] S128x128.size h)) P) shapeCasts_S128x128_S128x128

/-- The row count of a batch element. -/
def lenOf (x1 : S2.Idx → Elt F .i32) (q : ℕ) (hq : ∀ a : Fin 1, (![q] : Fin 1 → ℕ) a + S1.size a ≤ S2.size a) : Elt F .i32 :=
  View.ld x1 (Rect.unit (s := S2) ![q] S1.size hq) (Shape.Idx.first (numel1_S1.symm ▸ Nat.one_pos))

variable (x1 : S2.Idx → Elt F .i32) (x2 : S1024x4096.Idx → Elt F .fp8e4m3) (x3 : S1024x1.Idx → Elt F .f32)
  (x4 : S4096x512.Idx → Elt F .fp8e4m3) (x5 : S1x512.Idx → Elt F .f32) (x6 : S1024x512.Idx → Elt F .bf16)

/-- The tile at row `o`. -/
def tileAt (o : ℕ) (p : BitVec 32) (q : ℕ) (hq : ∀ a : Fin 1, (![q] : Fin 1 → ℕ) a + S1.size a ≤ S2.size a)
    (h2 : ∀ a : Fin 2, (![o, 0] : Fin 2 → ℕ) a + S128x4096.size a ≤ S1024x4096.size a)
    (h3 : ∀ a : Fin 2, (![o, 0] : Fin 2 → ℕ) a + S128x1.size a ≤ S1024x1.size a)
    (h6 : ∀ a : Fin 2, (![o, 0] : Fin 2 → ℕ) a + S128x512.size a ≤ S1024x512.size a) : FVec F S128x512 .bf16 :=
  hblk p (View.ld x2 (Rect.unit (s := S1024x4096) ![o, 0] S128x4096.size h2))
    (View.ld x4 (Rect.unit (s := S4096x512) ![0, 0] S4096x512.size inb_S4096x512_S4096x512_0_0))
    (View.ld x3 (Rect.unit (s := S1024x1) ![o, 0] S128x1.size h3))
    (View.ld x5 (Rect.unit (s := S1x512) ![0, 0] S1x512.size inb_S1x512_S1x512_0_0))
    (lenOf x1 q hq) (View.ld x6 (Rect.unit (s := S1024x512) ![o, 0] S128x512.size h6))

/-- The tile of rows 0 to 127. -/
def tile0 : FVec F S128x512 .bf16 :=
  tileAt x1 x2 x3 x4 x5 x6 0 0#32 0 inb_S2_S1_0 inb_S1024x4096_S128x4096_0_0 inb_S1024x1_S128x1_0_0 inb_S1024x512_S128x512_0_0

/-- The tile of rows 128 to 255. -/
def tile1 : FVec F S128x512 .bf16 :=
  tileAt x1 x2 x3 x4 x5 x6 128 128#32 0 inb_S2_S1_0 inb_S1024x4096_S128x4096_128_0 inb_S1024x1_S128x1_128_0 inb_S1024x512_S128x512_128_0

/-- The tile of rows 256 to 383. -/
def tile2 : FVec F S128x512 .bf16 :=
  tileAt x1 x2 x3 x4 x5 x6 256 256#32 0 inb_S2_S1_0 inb_S1024x4096_S128x4096_256_0 inb_S1024x1_S128x1_256_0 inb_S1024x512_S128x512_256_0

/-- The tile of rows 384 to 511. -/
def tile3 : FVec F S128x512 .bf16 :=
  tileAt x1 x2 x3 x4 x5 x6 384 384#32 0 inb_S2_S1_0 inb_S1024x4096_S128x4096_384_0 inb_S1024x1_S128x1_384_0 inb_S1024x512_S128x512_384_0

/-- The tile of rows 512 to 639. -/
def tile4 : FVec F S128x512 .bf16 :=
  tileAt x1 x2 x3 x4 x5 x6 512 0#32 1 inb_S2_S1_1 inb_S1024x4096_S128x4096_512_0 inb_S1024x1_S128x1_512_0 inb_S1024x512_S128x512_512_0

/-- The tile of rows 640 to 767. -/
def tile5 : FVec F S128x512 .bf16 :=
  tileAt x1 x2 x3 x4 x5 x6 640 128#32 1 inb_S2_S1_1 inb_S1024x4096_S128x4096_640_0 inb_S1024x1_S128x1_640_0 inb_S1024x512_S128x512_640_0

/-- The tile of rows 768 to 895. -/
def tile6 : FVec F S128x512 .bf16 :=
  tileAt x1 x2 x3 x4 x5 x6 768 256#32 1 inb_S2_S1_1 inb_S1024x4096_S128x4096_768_0 inb_S1024x1_S128x1_768_0 inb_S1024x512_S128x512_768_0

/-- The tile of rows 896 to 1023. -/
def tile7 : FVec F S128x512 .bf16 :=
  tileAt x1 x2 x3 x4 x5 x6 896 384#32 1 inb_S2_S1_1 inb_S1024x4096_S128x4096_896_0 inb_S1024x1_S128x1_896_0 inb_S1024x512_S128x512_896_0

/-- The stores into the first result's block, the last first. -/
def L8 : List (View.Piece (Elt F) S1024x512 .bf16) :=
  [⟨Rect.unit (s := S1024x512) ![896, 0] S128x512.size inb_S1024x512_S128x512_896_0, tile7 x1 x2 x3 x4 x5 x6⟩,
   ⟨Rect.unit (s := S1024x512) ![768, 0] S128x512.size inb_S1024x512_S128x512_768_0, tile6 x1 x2 x3 x4 x5 x6⟩,
   ⟨Rect.unit (s := S1024x512) ![640, 0] S128x512.size inb_S1024x512_S128x512_640_0, tile5 x1 x2 x3 x4 x5 x6⟩,
   ⟨Rect.unit (s := S1024x512) ![512, 0] S128x512.size inb_S1024x512_S128x512_512_0, tile4 x1 x2 x3 x4 x5 x6⟩,
   ⟨Rect.unit (s := S1024x512) ![384, 0] S128x512.size inb_S1024x512_S128x512_384_0, tile3 x1 x2 x3 x4 x5 x6⟩,
   ⟨Rect.unit (s := S1024x512) ![256, 0] S128x512.size inb_S1024x512_S128x512_256_0, tile2 x1 x2 x3 x4 x5 x6⟩,
   ⟨Rect.unit (s := S1024x512) ![128, 0] S128x512.size inb_S1024x512_S128x512_128_0, tile1 x1 x2 x3 x4 x5 x6⟩,
   ⟨Rect.unit (s := S1024x512) ![0, 0] S128x512.size inb_S1024x512_S128x512_0_0, tile0 x1 x2 x3 x4 x5 x6⟩]

/-- The stores into the stash, the last first. -/
def L11 (i : grid0.Coords) : List (View.Piece (Elt F) S10x1024x512 .bf16) :=
  [⟨Rect.unit (s := S10x1024x512) (k0_off8 i) S1x128x512.size (k0_off8_inb i), slab (tile7 x1 x2 x3 x4 x5 x6)⟩,
   ⟨Rect.unit (s := S10x1024x512) (k0_off7 i) S1x128x512.size (k0_off7_inb i), slab (tile6 x1 x2 x3 x4 x5 x6)⟩,
   ⟨Rect.unit (s := S10x1024x512) (k0_off6 i) S1x128x512.size (k0_off6_inb i), slab (tile5 x1 x2 x3 x4 x5 x6)⟩,
   ⟨Rect.unit (s := S10x1024x512) (k0_off5 i) S1x128x512.size (k0_off5_inb i), slab (tile4 x1 x2 x3 x4 x5 x6)⟩,
   ⟨Rect.unit (s := S10x1024x512) (k0_off4 i) S1x128x512.size (k0_off4_inb i), slab (tile3 x1 x2 x3 x4 x5 x6)⟩,
   ⟨Rect.unit (s := S10x1024x512) (k0_off3 i) S1x128x512.size (k0_off3_inb i), slab (tile2 x1 x2 x3 x4 x5 x6)⟩,
   ⟨Rect.unit (s := S10x1024x512) (k0_off2 i) S1x128x512.size (k0_off2_inb i), slab (tile1 x1 x2 x3 x4 x5 x6)⟩,
   ⟨Rect.unit (s := S10x1024x512) (k0_off1 i) S1x128x512.size (k0_off1_inb i), slab (tile0 x1 x2 x3 x4 x5 x6)⟩]

/-- The first point's stores of the partial sums, the last first. -/
def L12 : List (View.Piece (Elt F) S1024x128 .f32) :=
  [⟨Rect.unit (s := S1024x128) ![896, 0] S128x128.size inb_S1024x128_S128x128_896_0, shapeCast S128x128 (part (tile7 x1 x2 x3 x4 x5 x6)) shapeCasts_S128x128_S128x128⟩,
   ⟨Rect.unit (s := S1024x128) ![768, 0] S128x128.size inb_S1024x128_S128x128_768_0, shapeCast S128x128 (part (tile6 x1 x2 x3 x4 x5 x6)) shapeCasts_S128x128_S128x128⟩,
   ⟨Rect.unit (s := S1024x128) ![640, 0] S128x128.size inb_S1024x128_S128x128_640_0, shapeCast S128x128 (part (tile5 x1 x2 x3 x4 x5 x6)) shapeCasts_S128x128_S128x128⟩,
   ⟨Rect.unit (s := S1024x128) ![512, 0] S128x128.size inb_S1024x128_S128x128_512_0, shapeCast S128x128 (part (tile4 x1 x2 x3 x4 x5 x6)) shapeCasts_S128x128_S128x128⟩,
   ⟨Rect.unit (s := S1024x128) ![384, 0] S128x128.size inb_S1024x128_S128x128_384_0, shapeCast S128x128 (part (tile3 x1 x2 x3 x4 x5 x6)) shapeCasts_S128x128_S128x128⟩,
   ⟨Rect.unit (s := S1024x128) ![256, 0] S128x128.size inb_S1024x128_S128x128_256_0, shapeCast S128x128 (part (tile2 x1 x2 x3 x4 x5 x6)) shapeCasts_S128x128_S128x128⟩,
   ⟨Rect.unit (s := S1024x128) ![128, 0] S128x128.size inb_S1024x128_S128x128_128_0, shapeCast S128x128 (part (tile1 x1 x2 x3 x4 x5 x6)) shapeCasts_S128x128_S128x128⟩,
   ⟨Rect.unit (s := S1024x128) ![0, 0] S128x128.size inb_S1024x128_S128x128_0_0, shapeCast S128x128 (part (tile0 x1 x2 x3 x4 x5 x6)) shapeCasts_S128x128_S128x128⟩]

/-- A later point's stores of the partial sums, the last first. -/
def L12' (x12 : S1024x128.Idx → Elt F .f32) : List (View.Piece (Elt F) S1024x128 .f32) :=
  [⟨Rect.unit (s := S1024x128) ![896, 0] S128x128.size inb_S1024x128_S128x128_896_0,
     added x12 896 inb_S1024x128_S128x128_896_0 (part (tile7 x1 x2 x3 x4 x5 x6))⟩,
   ⟨Rect.unit (s := S1024x128) ![768, 0] S128x128.size inb_S1024x128_S128x128_768_0,
     added x12 768 inb_S1024x128_S128x128_768_0 (part (tile6 x1 x2 x3 x4 x5 x6))⟩,
   ⟨Rect.unit (s := S1024x128) ![640, 0] S128x128.size inb_S1024x128_S128x128_640_0,
     added x12 640 inb_S1024x128_S128x128_640_0 (part (tile5 x1 x2 x3 x4 x5 x6))⟩,
   ⟨Rect.unit (s := S1024x128) ![512, 0] S128x128.size inb_S1024x128_S128x128_512_0,
     added x12 512 inb_S1024x128_S128x128_512_0 (part (tile4 x1 x2 x3 x4 x5 x6))⟩,
   ⟨Rect.unit (s := S1024x128) ![384, 0] S128x128.size inb_S1024x128_S128x128_384_0,
     added x12 384 inb_S1024x128_S128x128_384_0 (part (tile3 x1 x2 x3 x4 x5 x6))⟩,
   ⟨Rect.unit (s := S1024x128) ![256, 0] S128x128.size inb_S1024x128_S128x128_256_0,
     added x12 256 inb_S1024x128_S128x128_256_0 (part (tile2 x1 x2 x3 x4 x5 x6))⟩,
   ⟨Rect.unit (s := S1024x128) ![128, 0] S128x128.size inb_S1024x128_S128x128_128_0,
     added x12 128 inb_S1024x128_S128x128_128_0 (part (tile1 x1 x2 x3 x4 x5 x6))⟩,
   ⟨Rect.unit (s := S1024x128) ![0, 0] S128x128.size inb_S1024x128_S128x128_0_0,
     added x12 0 inb_S1024x128_S128x128_0_0 (part (tile0 x1 x2 x3 x4 x5 x6))⟩]

end Cert.KernelIdeal.Run

end
-- ==== Proof.ValFirst.lean ====
/-
  The first grid point's run, with what it leaves: the tiles stored, and the partial sums started.
-/
module

public import proofs.«01_k».proof.Proof.Gen.KernelIdeal.Launch
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.Tiles

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 1000000 in
/-- The first point: the partial sums are stored. -/
theorem runFirst (c : Dev nD) (i : grid0.Coords)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x1 : S2.Idx → Elt F .i32) (x2 : S1024x4096.Idx → Elt F .fp8e4m3) (x3 : S1024x1.Idx → Elt F .f32) (x4 : S4096x512.Idx → Elt F .fp8e4m3) (x5 : S1x512.Idx → Elt F .f32) (x6 : S1024x512.Idx → Elt F .bf16) (x7 : S1x5120.Idx → Elt F .f32) (x8 : S1024x512.Idx → Elt F .bf16) (x9 : S1024x5120.Idx → Elt F .fp8e4m3) (x10 : S1024x1.Idx → Elt F .f32) (x11 : S10x1024x512.Idx → Elt F .bf16) (x12 : S1024x128.Idx → Elt F .f32)
    (h0 : Scalar.cmpi .ne (Scalar.extui (Scalar.cmpi .eq (BitVec.ofNat 32 (i 0).val) 0#32) : BitVec 32) 0#32 = 1#1)
    (h1 : ¬ Scalar.cmpi .ne (Scalar.extui (Scalar.cmpi .sgt (BitVec.ofNat 32 (i 0).val) 0#32) : BitVec 32) 0#32 = 1#1)
    (h17 : ¬ k0_cond17 i = 1#1) (E : Set ℕ) :
    (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) E (cc0_proj_rmsnorm_quant i arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12' ∗ ⌜(∃ f, x8' = arg8.view.read (Elt F) (arg8.view.writes (Elt F) f (L8 x1 x2 x3 x4 x5 x6)))
            ∧ (∃ f, arg11.view.read (Elt F) f = x11 ∧ x11' = arg11.view.read (Elt F) (arg11.view.writes (Elt F) f (L11 x1 x2 x3 x4 x5 x6 i)))
            ∧ (∃ f, x12' = arg12.view.read (Elt F) (arg12.view.writes (Elt F) f (L12 x1 x2 x3 x4 x5 x6)))⌝)) := by
  simp only [cc0_proj_rmsnorm_quant_eq_skeleton]; unfold cc0_proj_rmsnorm_quant_skel
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  iexists _, _, _, _, _
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  ipureintro
  subst hf1 hf2 hf3 hf4 hf5 hf6 hf7 hf8 hf9 hf10 hf11 hf12
  exact ⟨⟨f8, rfl⟩, ⟨f11, rfl, rfl⟩, ⟨_, rfl⟩⟩

end Cert.KernelIdeal.Val

end
-- ==== Proof.ValMid.lean ====
/-
  The run of a grid point between, with what it leaves: the tiles stored, and the partial sums added to.
-/
module

public import proofs.«01_k».proof.Proof.Gen.KernelIdeal.Launch
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.Tiles

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 1000000 in
/-- The a point between: the partial sums are added. -/
theorem runMid (c : Dev nD) (i : grid0.Coords)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x1 : S2.Idx → Elt F .i32) (x2 : S1024x4096.Idx → Elt F .fp8e4m3) (x3 : S1024x1.Idx → Elt F .f32) (x4 : S4096x512.Idx → Elt F .fp8e4m3) (x5 : S1x512.Idx → Elt F .f32) (x6 : S1024x512.Idx → Elt F .bf16) (x7 : S1x5120.Idx → Elt F .f32) (x8 : S1024x512.Idx → Elt F .bf16) (x9 : S1024x5120.Idx → Elt F .fp8e4m3) (x10 : S1024x1.Idx → Elt F .f32) (x11 : S10x1024x512.Idx → Elt F .bf16) (x12 : S1024x128.Idx → Elt F .f32)
    (h0 : ¬ Scalar.cmpi .ne (Scalar.extui (Scalar.cmpi .eq (BitVec.ofNat 32 (i 0).val) 0#32) : BitVec 32) 0#32 = 1#1)
    (h1 : Scalar.cmpi .ne (Scalar.extui (Scalar.cmpi .sgt (BitVec.ofNat 32 (i 0).val) 0#32) : BitVec 32) 0#32 = 1#1)
    (h17 : ¬ k0_cond17 i = 1#1) (E : Set ℕ) :
    (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) E (cc0_proj_rmsnorm_quant i arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12' ∗ ⌜(∃ f, x8' = arg8.view.read (Elt F) (arg8.view.writes (Elt F) f (L8 x1 x2 x3 x4 x5 x6)))
            ∧ (∃ f, arg11.view.read (Elt F) f = x11 ∧ x11' = arg11.view.read (Elt F) (arg11.view.writes (Elt F) f (L11 x1 x2 x3 x4 x5 x6 i)))
            ∧ (∃ f, x12' = arg12.view.read (Elt F) (arg12.view.writes (Elt F) f (L12' x1 x2 x3 x4 x5 x6 x12)))⌝)) := by
  simp only [cc0_proj_rmsnorm_quant_eq_skeleton]; unfold cc0_proj_rmsnorm_quant_skel
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  iexists _, _, _, _, _
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  ipureintro
  subst hf1 hf2 hf3 hf4 hf5 hf6 hf7 hf8 hf9 hf10 hf11 hf12
  exact ⟨⟨f8, rfl⟩, ⟨f11, rfl, rfl⟩, ⟨_, rfl⟩⟩

end Cert.KernelIdeal.Val

end
-- ==== Proof.ValLast.lean ====
/-
  The last grid point's run, with what it leaves: the tiles, the partial sums, and what the loop over row groups stored.
-/
module

public import proofs.«01_k».proof.Proof.Gen.KernelIdeal.Launch
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.Tiles

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

set_option maxHeartbeats 1000000 in
/-- The last point: the partial sums are added and the rows are normalised and quantised. -/
theorem runLast (c : Dev nD) (i : grid0.Coords)
    (arg1 : Memref sig .tc .smem S2 .i32) (harg1 : arg1.IsWhole)
    (arg2 : Memref sig .tc .vmem S1024x4096 .fp8e4m3) (harg2 : arg2.IsWhole)
    (arg3 : Memref sig .tc .vmem S1024x1 .f32) (harg3 : arg3.IsWhole)
    (arg4 : Memref sig .tc .vmem S4096x512 .fp8e4m3) (harg4 : arg4.IsWhole)
    (arg5 : Memref sig .tc .vmem S1x512 .f32) (harg5 : arg5.IsWhole)
    (arg6 : Memref sig .tc .vmem S1024x512 .bf16) (harg6 : arg6.IsWhole)
    (arg7 : Memref sig .tc .vmem S1x5120 .f32) (harg7 : arg7.IsWhole)
    (arg8 : Memref sig .tc .vmem S1024x512 .bf16) (harg8 : arg8.IsWhole)
    (arg9 : Memref sig .tc .vmem S1024x5120 .fp8e4m3) (harg9 : arg9.IsWhole)
    (arg10 : Memref sig .tc .vmem S1024x1 .f32) (harg10 : arg10.IsWhole)
    (arg11 : Memref sig .tc .vmem S10x1024x512 .bf16) (harg11 : arg11.IsWhole)
    (arg12 : Memref sig .tc .vmem S1024x128 .f32) (harg12 : arg12.IsWhole)
    (x1 : S2.Idx → Elt F .i32) (x2 : S1024x4096.Idx → Elt F .fp8e4m3) (x3 : S1024x1.Idx → Elt F .f32) (x4 : S4096x512.Idx → Elt F .fp8e4m3) (x5 : S1x512.Idx → Elt F .f32) (x6 : S1024x512.Idx → Elt F .bf16) (x7 : S1x5120.Idx → Elt F .f32) (x8 : S1024x512.Idx → Elt F .bf16) (x9 : S1024x5120.Idx → Elt F .fp8e4m3) (x10 : S1024x1.Idx → Elt F .f32) (x11 : S10x1024x512.Idx → Elt F .bf16) (x12 : S1024x128.Idx → Elt F .f32)
    (h0 : ¬ Scalar.cmpi .ne (Scalar.extui (Scalar.cmpi .eq (BitVec.ofNat 32 (i 0).val) 0#32) : BitVec 32) 0#32 = 1#1)
    (h1 : Scalar.cmpi .ne (Scalar.extui (Scalar.cmpi .sgt (BitVec.ofNat 32 (i 0).val) 0#32) : BitVec 32) 0#32 = 1#1)
    (h17 : k0_cond17 i = 1#1) (E : Set ℕ) :
    (iprop(owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12) : sProp 𝕄)
      ⊢ wp frame (wpE (defs₀ (F := F)) Variants.none c none) E (cc0_proj_rmsnorm_quant i arg1 harg1 arg2 harg2 arg3 harg3 arg4 harg4 arg5 harg5 arg6 harg6 arg7 harg7 arg8 harg8 arg9 harg9 arg10 harg10 arg11 harg11 arg12 harg12)
          (fun _ => iprop(∃ x8' x9' x10' x11' x12', owns (c : Thread nD τ) arg1 fullShare.right x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8' ∗ owns (c : Thread nD τ) arg9 fullShare x9' ∗ owns (c : Thread nD τ) arg10 fullShare x10' ∗ owns (c : Thread nD τ) arg11 fullShare x11' ∗ owns (c : Thread nD τ) arg12 fullShare x12' ∗ ⌜(∃ f, x8' = arg8.view.read (Elt F) (arg8.view.writes (Elt F) f (L8 x1 x2 x3 x4 x5 x6)))
            ∧ (∃ f, arg11.view.read (Elt F) f = x11 ∧ x11' = arg11.view.read (Elt F) (arg11.view.writes (Elt F) f (L11 x1 x2 x3 x4 x5 x6 i)))
            ∧ (∃ f, x12' = arg12.view.read (Elt F) (arg12.view.writes (Elt F) f (L12' x1 x2 x3 x4 x5 x6 x12)))
            ∧ (∃ f7 f9 f10 A11 A12, x9' = arg9.view.read (Elt F) (arg9.view.writes (Elt F) f9 (pb_k0_t1 Variants.none c none i arg1 harg1 arg2 harg2 arg3 harg3 arg4 harg4 arg5 harg5 arg6 harg6 arg7 harg7 arg8 harg8 arg9 harg9 arg10 harg10 arg11 harg11 arg12 harg12 h17 f7 A11 A12 (Scf.trips k0_t1_loop.lb k0_t1_loop.ub k0_t1_loop.st)).1)
              ∧ x10' = arg10.view.read (Elt F) (arg10.view.writes (Elt F) f10 (pb_k0_t1 Variants.none c none i arg1 harg1 arg2 harg2 arg3 harg3 arg4 harg4 arg5 harg5 arg6 harg6 arg7 harg7 arg8 harg8 arg9 harg9 arg10 harg10 arg11 harg11 arg12 harg12 h17 f7 A11 A12 (Scf.trips k0_t1_loop.lb k0_t1_loop.ub k0_t1_loop.st)).2)
              ∧ arg7.view.read (Elt F) f7 = x7 ∧ arg11.view.read (Elt F) A11 = x11'
              ∧ (∃ f, arg12.view.read (Elt F) A12 = arg12.view.read (Elt F) (arg12.view.writes (Elt F) f (L12' x1 x2 x3 x4 x5 x6 x12))))⌝)) := by
  simp only [cc0_proj_rmsnorm_quant_eq_skeleton]; unfold cc0_proj_rmsnorm_quant_skel
  simp only [k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
  sl_exec
  sl_step
  iexists _, _, _, _, _
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  ipureintro
  subst hf1 hf2 hf3 hf4 hf5 hf6 hf7 hf8 hf9 hf10 hf11 hf12
  refine ⟨⟨_, rfl⟩, ⟨f11, rfl, rfl⟩, ⟨_, rfl⟩, f7, f9, f10, _, _, rfl, rfl, rfl, rfl, ?_⟩
  exact ⟨_, rfl⟩

end Cert.KernelIdeal.Val

end
-- ==== Proof.LoopForm.lean ====
/-
  The stores that one trip of the last grid point's loop makes, in terms of `Loop`'s functions of what it loads.
-/
module

public import proofs.«01_k».proof.Proof.Gen.KernelIdeal.Loops
public import proofs.«01_k».proof.Proof.Loop

@[expose] public section

set_option maxRecDepth 16384

noncomputable section

namespace Cert.KernelIdeal.Loop

open Cert.KernelIdeal Cert.KernelIdeal.Gen Idealize.ShloMosaic Idealize.SL.Sem

variable {F : FTy → Type} [FloatOps F]

/-- The trip's partial sums. -/
def sums (arg12 : Memref sig .tc .vmem S1024x128 .f32) (X_arg12 : BufTy.Contents (Elt F) arg12.view.ty) (i : grid0.Coords)
    (k : Fin k0_t1_loop.trips) (k0_h17 : k0_cond17 i = 1#1) : Vec F S32x128 .f32 :=
  View.readAt (Elt F) arg12.view (Rect.unit (s := S1024x128) (k0_off9 k) S32x128.size (k0_off9_inb i k k0_h17)).toLoadRect X_arg12

/-- The trip's ten stashed tiles. -/
def tiles (arg11 : Memref sig .tc .vmem S10x1024x512 .bf16) (X_arg11 : BufTy.Contents (Elt F) arg11.view.ty) (i : grid0.Coords)
    (k : Fin k0_t1_loop.trips) (k0_h17 : k0_cond17 i = 1#1) : Fin 10 → Vec F S1x32x512 .bf16 :=
  ![View.readAt (Elt F) arg11.view (Rect.unit (s := S10x1024x512) (k0_off10 k) S1x32x512.size (k0_off10_inb i k k0_h17)).toLoadRect X_arg11,
    View.readAt (Elt F) arg11.view (Rect.unit (s := S10x1024x512) (k0_off11 k) S1x32x512.size (k0_off11_inb i k k0_h17)).toLoadRect X_arg11,
    View.readAt (Elt F) arg11.view (Rect.unit (s := S10x1024x512) (k0_off12 k) S1x32x512.size (k0_off12_inb i k k0_h17)).toLoadRect X_arg11,
    View.readAt (Elt F) arg11.view (Rect.unit (s := S10x1024x512) (k0_off13 k) S1x32x512.size (k0_off13_inb i k k0_h17)).toLoadRect X_arg11,
    View.readAt (Elt F) arg11.view (Rect.unit (s := S10x1024x512) (k0_off14 k) S1x32x512.size (k0_off14_inb i k k0_h17)).toLoadRect X_arg11,
    View.readAt (Elt F) arg11.view (Rect.unit (s := S10x1024x512) (k0_off15 k) S1x32x512.size (k0_off15_inb i k k0_h17)).toLoadRect X_arg11,
    View.readAt (Elt F) arg11.view (Rect.unit (s := S10x1024x512) (k0_off16 k) S1x32x512.size (k0_off16_inb i k k0_h17)).toLoadRect X_arg11,
    View.readAt (Elt F) arg11.view (Rect.unit (s := S10x1024x512) (k0_off17 k) S1x32x512.size (k0_off17_inb i k k0_h17)).toLoadRect X_arg11,
    View.readAt (Elt F) arg11.view (Rect.unit (s := S10x1024x512) (k0_off18 k) S1x32x512.size (k0_off18_inb i k k0_h17)).toLoadRect X_arg11,
    View.readAt (Elt F) arg11.view (Rect.unit (s := S10x1024x512) (k0_off19 k) S1x32x512.size (k0_off19_inb i k k0_h17)).toLoadRect X_arg11]

/-- The ten tiles of gains. -/
def gains (arg7 : Memref sig .tc .vmem S1x5120 .f32) (X_arg7 : BufTy.Contents (Elt F) arg7.view.ty) : Fin 10 → Vec F S1x512 .f32 :=
  ![View.readAt (Elt F) arg7.view (Rect.unit (s := S1x5120) ![0, 0] S1x512.size inb_S1x5120_S1x512_0_0).toLoadRect X_arg7,
    View.readAt (Elt F) arg7.view (Rect.unit (s := S1x5120) ![0, 512] S1x512.size inb_S1x5120_S1x512_0_512).toLoadRect X_arg7,
    View.readAt (Elt F) arg7.view (Rect.unit (s := S1x5120) ![0, 1024] S1x512.size inb_S1x5120_S1x512_0_1024).toLoadRect X_arg7,
    View.readAt (Elt F) arg7.view (Rect.unit (s := S1x5120) ![0, 1536] S1x512.size inb_S1x5120_S1x512_0_1536).toLoadRect X_arg7,
    View.readAt (Elt F) arg7.view (Rect.unit (s := S1x5120) ![0, 2048] S1x512.size inb_S1x5120_S1x512_0_2048).toLoadRect X_arg7,
    View.readAt (Elt F) arg7.view (Rect.unit (s := S1x5120) ![0, 2560] S1x512.size inb_S1x5120_S1x512_0_2560).toLoadRect X_arg7,
    View.readAt (Elt F) arg7.view (Rect.unit (s := S1x5120) ![0, 3072] S1x512.size inb_S1x5120_S1x512_0_3072).toLoadRect X_arg7,
    View.readAt (Elt F) arg7.view (Rect.unit (s := S1x5120) ![0, 3584] S1x512.size inb_S1x5120_S1x512_0_3584).toLoadRect X_arg7,
    View.readAt (Elt F) arg7.view (Rect.unit (s := S1x5120) ![0, 4096] S1x512.size inb_S1x5120_S1x512_0_4096).toLoadRect X_arg7,
    View.readAt (Elt F) arg7.view (Rect.unit (s := S1x5120) ![0, 4608] S1x512.size inb_S1x5120_S1x512_0_4608).toLoadRect X_arg7]

/-- The codes that the trip stores, the last tile first. -/
def stores9 (i : grid0.Coords) (k : Fin k0_t1_loop.trips) (k0_h17 : k0_cond17 i = 1#1) (C : Fin 10 → FVec F S32x512 .fp8e4m3) :
    List (View.Piece (Elt F) S1024x5120 .fp8e4m3) :=
  [⟨Rect.unit (s := S1024x5120) (k0_off30 k) S32x512.size (k0_off30_inb i k k0_h17), C 9⟩,
   ⟨Rect.unit (s := S1024x5120) (k0_off29 k) S32x512.size (k0_off29_inb i k k0_h17), C 8⟩,
   ⟨Rect.unit (s := S1024x5120) (k0_off28 k) S32x512.size (k0_off28_inb i k k0_h17), C 7⟩,
   ⟨Rect.unit (s := S1024x5120) (k0_off27 k) S32x512.size (k0_off27_inb i k k0_h17), C 6⟩,
   ⟨Rect.unit (s := S1024x5120) (k0_off26 k) S32x512.size (k0_off26_inb i k k0_h17), C 5⟩,
   ⟨Rect.unit (s := S1024x5120) (k0_off25 k) S32x512.size (k0_off25_inb i k k0_h17), C 4⟩,
   ⟨Rect.unit (s := S1024x5120) (k0_off24 k) S32x512.size (k0_off24_inb i k k0_h17), C 3⟩,
   ⟨Rect.unit (s := S1024x5120) (k0_off23 k) S32x512.size (k0_off23_inb i k k0_h17), C 2⟩,
   ⟨Rect.unit (s := S1024x5120) (k0_off22 k) S32x512.size (k0_off22_inb i k k0_h17), C 1⟩,
   ⟨Rect.unit (s := S1024x5120) (k0_off21 k) S32x512.size (k0_off21_inb i k k0_h17), C 0⟩]

/-- The scales that the trip stores. -/
def stores10 (i : grid0.Coords) (k : Fin k0_t1_loop.trips) (k0_h17 : k0_cond17 i = 1#1) (C : FVec F S32x1 .f32) :
    List (View.Piece (Elt F) S1024x1 .f32) :=
  [⟨Rect.unit (s := S1024x1) (k0_off20 k) S32x1.size (k0_off20_inb i k k0_h17), C⟩]

/-- The trip's stores of codes. -/
theorem trip9 (𝒱 : Variants) (c : Dev nD) (bd : Option 𝒱.V) (i : grid0.Coords) (arg1 : Memref sig .tc .smem S2 .i32) (harg1 : arg1.IsWhole) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1x5120 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S10x1024x512 .bf16) (harg11 : arg11.IsWhole) (arg12 : Memref sig .tc .vmem S1024x128 .f32) (harg12 : arg12.IsWhole) (k0_h17 : k0_cond17 i = 1#1) (X_arg7 : BufTy.Contents (Elt F) arg7.view.ty) (X_arg11 : BufTy.Contents (Elt F) arg11.view.ty) (X_arg12 : BufTy.Contents (Elt F) arg12.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h17 X_arg7 X_arg11 X_arg12 k).1 =
      stores9 i k k0_h17 (codes (sums arg12 X_arg12 i k k0_h17) (tiles arg11 X_arg11 i k k0_h17) (gains arg7 X_arg7)) := by
  unfold tripL_k0_t1 trip_k0_t1
  rfl

/-- The trip's stores of scales. -/
theorem trip10 (𝒱 : Variants) (c : Dev nD) (bd : Option 𝒱.V) (i : grid0.Coords) (arg1 : Memref sig .tc .smem S2 .i32) (harg1 : arg1.IsWhole) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1x5120 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S10x1024x512 .bf16) (harg11 : arg11.IsWhole) (arg12 : Memref sig .tc .vmem S1024x128 .f32) (harg12 : arg12.IsWhole) (k0_h17 : k0_cond17 i = 1#1) (X_arg7 : BufTy.Contents (Elt F) arg7.view.ty) (X_arg11 : BufTy.Contents (Elt F) arg11.view.ty) (X_arg12 : BufTy.Contents (Elt F) arg12.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h17 X_arg7 X_arg11 X_arg12 k).2 =
      stores10 i k k0_h17 (scale (overs (sums arg12 X_arg12 i k k0_h17) (tiles arg11 X_arg11 i k k0_h17) (gains arg7 X_arg7))) := by
  unfold tripL_k0_t1 trip_k0_t1
  rfl

end Cert.KernelIdeal.Loop

end
-- ==== Proof.TileAt.lean ====
/-
  The tiles that a grid point computes, over the extended reals and read at an index, are the entries of the first
  result's column block; so are the stores into the block and into the slab, and the partial sums are its sums of squares.
-/
module

public import proofs.«01_k».proof.Proof.Tiles
public import proofs.«01_k».proof.Proof.LoopAt
public import Idealize.ShloMosaic.Lib.Pipeline.ValueKit.Tiles
public import Idealize.ShloMosaic.Lib.WritesUnit

@[expose] public section

noncomputable section

namespace Cert.KernelIdeal.Run

open Cert.KernelIdeal Cert.KernelIdeal.Gen Idealize.ShloMosaic
open Cert.KernelIdeal.Loop (col lane)

/-- A tile at an index. -/
theorem hblk_at (p : BitVec 32) (v0 : Vec Ideal S128x4096 .fp8e4m3) (v2 : Vec Ideal S4096x512 .fp8e4m3) (v4 : Vec Ideal S128x1 .f32)
    (v8 : Vec Ideal S1x512 .f32) (v15 : Elt Ideal .i32) (v18 : Vec Ideal S128x512 .bf16) (a : Fin 128) (j : Fin 512) :
    hblk p v0 v2 v4 v8 v15 v18 (ix2 a j) =
      Scalar.select (IntOp.cmpi .slt (IntOp.addi p (BitVec.ofNat 32 a.val)) v15)
        (v18 (ix2 a j) + (∑ k : Fin 4096, v0 (ix2 a k) * v2 (ix2 k j)) * v4 (ix2 a 0) * v8 (ix2 0 j)) (Ideal.ofBits .f32 0x00000000#32) := by
  pointwise [hblk]

/-- A slab of the stash at an index. -/
theorem slab_at (X : FVec Ideal S128x512 .bf16) (a : Fin 128) (j : Fin 512) : slab X (ix3 0 a j) = X (ix2 a j) := by
  pointwise [slab]

/-- A tile's squares, in four groups of 128 columns. -/
def squares (X : FVec Ideal S128x512 .bf16) : FVec Ideal S128x4x128 .f32 :=
  have v30 : FVec Ideal S128x512 .f32 := extf .f32 X bitsLt_bf16_f32
  shapeCast S128x4x128 (mulf v30 v30) shapeCasts_S128x512_S128x4x128

theorem squares_at (X : FVec Ideal S128x512 .bf16) (a : Fin 128) (s : Fin 4) (l : Fin 128) :
    squares X (ix3 a s l) = X (ix2 a (lane l s)) * X (ix2 a (lane l s)) := by
  have e : lane l s = ⟨s.val * 128 + l.val, by omega⟩ := Fin.ext (by show 128 * s.val + l.val = s.val * 128 + l.val; omega)
  pointwise [squares]
  rw [e]

theorem part_at (X : FVec Ideal S128x512 .bf16) (a l : Fin 128) :
    part X (ix2 a l) = ∑ s : Fin 4, X (ix2 a (lane l s)) * X (ix2 a (lane l s)) := by
  have e : ∀ v : FVec Ideal S128x4x128 .f32,
      multiReduction (F := Ideal) (φ := .f32) .add [1] S128x128 v 0x00000000#32 reduces_S128x4x128_S128x128 (.inl rfl) rfl (ix2 a l)
        = ∑ s : Fin 4, v (ix3 a s l) := by
    intro v
    refine (Ideal.multiReduction_add_single v _ reduces_S128x4x128_S128x128 (.inl rfl) rfl (ix2 a l)).trans ?_
    refine Finset.sum_congr rfl fun s _ => congrArg v ?_
    funext b
    apply Fin.ext
    refine (Shape.Reduces.lift_val (a := 1) reduces_S128x4x128_S128x128 (ix2 a l) s b).trans ?_
    fin_cases b <;> rfl
  refine (e (squares X)).trans (Finset.sum_congr rfl fun s _ => squares_at X a s l)

/-- A batch element's row count. -/
theorem lenOf_at (x1 : S2.Idx → Elt Ideal .i32) (q : Fin 2) (hq : ∀ a : Fin 1, (![q.val] : Fin 1 → ℕ) a + S1.size a ≤ S2.size a) :
    lenOf x1 q.val hq = x1 (ix1 q) := by
  refine View.ld_unit_apply_of x1 _ _ _ _ (ix1 q) fun a => ?_
  fin_cases a
  rfl

/-- What a grid point's blocks hold: the first result's column block `t` is made of them. -/
structure Inputs (D : Spec.Data) (t : Fin 10) (x1 : S2.Idx → Elt Ideal .i32) (x2 : S1024x4096.Idx → Elt Ideal .fp8e4m3) (x3 : S1024x1.Idx → Elt Ideal .f32)
    (x4 : S4096x512.Idx → Elt Ideal .fp8e4m3) (x5 : S1x512.Idx → Elt Ideal .f32) (x6 : S1024x512.Idx → Elt Ideal .bf16) : Prop where
  len : ∀ q, x1 (ix1 q) = D.len q
  x : ∀ r k, x2 (ix2 r k) = D.x r k
  xs : ∀ r, x3 (ix2 r 0) = D.xs r
  w : ∀ k j, x4 (ix2 k j) = D.w k (col t j)
  ws : ∀ j, x5 (ix2 0 j) = D.ws (col t j)
  res : ∀ r j, x6 (ix2 r j) = D.res r (col t j)

section Point

variable {D : Spec.Data} {t : Fin 10} {x1 : S2.Idx → Elt Ideal .i32} {x2 : S1024x4096.Idx → Elt Ideal .fp8e4m3} {x3 : S1024x1.Idx → Elt Ideal .f32}
  {x4 : S4096x512.Idx → Elt Ideal .fp8e4m3} {x5 : S1x512.Idx → Elt Ideal .f32} {x6 : S1024x512.Idx → Elt Ideal .bf16}

/-- The tile at row `o`, in batch element `q`, holds the first result's rows from `o` on. -/
theorem tileAt_at (H : Inputs D t x1 x2 x3 x4 x5 x6) (o : ℕ) (p : BitVec 32) (q : ℕ) (hq h2 h3 h6) (a : Fin 128) (j : Fin 512) (r : Fin 1024)
    (hr : r.val = o + a.val) (hb : r.val / 512 = q) (hp : p + BitVec.ofNat 32 a.val = BitVec.ofNat 32 (r.val % 512)) :
    tileAt x1 x2 x3 x4 x5 x6 o p q hq h2 h3 h6 (ix2 a j) = D.h r (col t j) := by
  subst hb
  have hl : lenOf x1 (r.val / 512) hq = D.len ⟨r.val / 512, by omega⟩ := (lenOf_at x1 ⟨r.val / 512, by omega⟩ hq).trans (H.len _)
  have e2 : ∀ k, View.ld x2 (Rect.unit (s := S1024x4096) ![o, 0] S128x4096.size h2) (ix2 a k) = D.x r k := fun k =>
    (View.ld_unit_apply_of x2 _ _ _ _ (ix2 r k) (by intro b; fin_cases b; exacts [hr, (Nat.zero_add _).symm])).trans (H.x r k)
  have e3 : View.ld x3 (Rect.unit (s := S1024x1) ![o, 0] S128x1.size h3) (ix2 a 0) = D.xs r :=
    (View.ld_unit_apply_of x3 _ _ _ _ (ix2 r 0) (by intro b; fin_cases b; exacts [hr, rfl])).trans (H.xs r)
  have e4 : ∀ k, View.ld x4 (Rect.unit (s := S4096x512) ![0, 0] S4096x512.size inb_S4096x512_S4096x512_0_0) (ix2 k j) = D.w k (col t j) := fun k =>
    (View.ld_unit_apply_of x4 _ _ _ _ (ix2 k j) (by intro b; fin_cases b; exacts [(Nat.zero_add _).symm, (Nat.zero_add _).symm])).trans (H.w k j)
  have e5 : View.ld x5 (Rect.unit (s := S1x512) ![0, 0] S1x512.size inb_S1x512_S1x512_0_0) (ix2 0 j) = D.ws (col t j) :=
    (View.ld_unit_apply_of x5 _ _ _ _ (ix2 0 j) (by intro b; fin_cases b; exacts [rfl, (Nat.zero_add _).symm])).trans (H.ws j)
  have e6 : View.ld x6 (Rect.unit (s := S1024x512) ![o, 0] S128x512.size h6) (ix2 a j) = D.res r (col t j) :=
    (View.ld_unit_apply_of x6 _ _ _ _ (ix2 r j) (by intro b; fin_cases b; exacts [hr, (Nat.zero_add _).symm])).trans (H.res r j)
  unfold tileAt
  rw [hblk_at, hl, e3, e5, e6]
  simp only [e2, e4]
  unfold Spec.Data.h
  have hz : Ideal.ofBits .f32 0x00000000#32 = (0 : EReal) := by simp [Ideal.ofBits, Ideal.ieee]
  rw [show IntOp.addi p (BitVec.ofNat 32 a.val) = BitVec.ofNat 32 (r.val % 512) from hp, hz]
  exact Scalar.select_ofBool _ _ _

/-- Words of a row's position in its batch element. -/
theorem pos_add (b : ℕ) (a : Fin 128) : BitVec.ofNat 32 b + BitVec.ofNat 32 a.val = BitVec.ofNat 32 (b + a.val) := (BitVec.ofNat_add b a.val).symm

theorem tile0_at (H : Inputs D t x1 x2 x3 x4 x5 x6) (a : Fin 128) (j : Fin 512) (r : Fin 1024) (hr : r.val = 0 + a.val) :
    tile0 x1 x2 x3 x4 x5 x6 (ix2 a j) = D.h r (col t j) :=
  tileAt_at H _ _ _ _ _ _ _ a j r hr (by omega) ((pos_add 0 a).trans (congrArg (BitVec.ofNat 32) (by omega)))

theorem tile1_at (H : Inputs D t x1 x2 x3 x4 x5 x6) (a : Fin 128) (j : Fin 512) (r : Fin 1024) (hr : r.val = 128 + a.val) :
    tile1 x1 x2 x3 x4 x5 x6 (ix2 a j) = D.h r (col t j) :=
  tileAt_at H _ _ _ _ _ _ _ a j r hr (by omega) ((pos_add 128 a).trans (congrArg (BitVec.ofNat 32) (by omega)))

theorem tile2_at (H : Inputs D t x1 x2 x3 x4 x5 x6) (a : Fin 128) (j : Fin 512) (r : Fin 1024) (hr : r.val = 256 + a.val) :
    tile2 x1 x2 x3 x4 x5 x6 (ix2 a j) = D.h r (col t j) :=
  tileAt_at H _ _ _ _ _ _ _ a j r hr (by omega) ((pos_add 256 a).trans (congrArg (BitVec.ofNat 32) (by omega)))

theorem tile3_at (H : Inputs D t x1 x2 x3 x4 x5 x6) (a : Fin 128) (j : Fin 512) (r : Fin 1024) (hr : r.val = 384 + a.val) :
    tile3 x1 x2 x3 x4 x5 x6 (ix2 a j) = D.h r (col t j) :=
  tileAt_at H _ _ _ _ _ _ _ a j r hr (by omega) ((pos_add 384 a).trans (congrArg (BitVec.ofNat 32) (by omega)))

theorem tile4_at (H : Inputs D t x1 x2 x3 x4 x5 x6) (a : Fin 128) (j : Fin 512) (r : Fin 1024) (hr : r.val = 512 + a.val) :
    tile4 x1 x2 x3 x4 x5 x6 (ix2 a j) = D.h r (col t j) :=
  tileAt_at H _ _ _ _ _ _ _ a j r hr (by omega) ((pos_add 0 a).trans (congrArg (BitVec.ofNat 32) (by omega)))

theorem tile5_at (H : Inputs D t x1 x2 x3 x4 x5 x6) (a : Fin 128) (j : Fin 512) (r : Fin 1024) (hr : r.val = 640 + a.val) :
    tile5 x1 x2 x3 x4 x5 x6 (ix2 a j) = D.h r (col t j) :=
  tileAt_at H _ _ _ _ _ _ _ a j r hr (by omega) ((pos_add 128 a).trans (congrArg (BitVec.ofNat 32) (by omega)))

theorem tile6_at (H : Inputs D t x1 x2 x3 x4 x5 x6) (a : Fin 128) (j : Fin 512) (r : Fin 1024) (hr : r.val = 768 + a.val) :
    tile6 x1 x2 x3 x4 x5 x6 (ix2 a j) = D.h r (col t j) :=
  tileAt_at H _ _ _ _ _ _ _ a j r hr (by omega) ((pos_add 256 a).trans (congrArg (BitVec.ofNat 32) (by omega)))

theorem tile7_at (H : Inputs D t x1 x2 x3 x4 x5 x6) (a : Fin 128) (j : Fin 512) (r : Fin 1024) (hr : r.val = 896 + a.val) :
    tile7 x1 x2 x3 x4 x5 x6 (ix2 a j) = D.h r (col t j) :=
  tileAt_at H _ _ _ _ _ _ _ a j r hr (by omega) ((pos_add 384 a).trans (congrArg (BitVec.ofNat 32) (by omega)))

/-- A row is in one of the eight row tiles. -/
theorem row_cases (r : Fin 1024) : ∃ b : Fin 8, 128 * b.val ≤ r.val ∧ r.val < 128 * b.val + 128 := ⟨⟨r.val / 128, by omega⟩, by constructor <;> simp <;> omega⟩

/-- Eight stores at the row tiles of a two-axis buffer, the last first. -/
def rowPieces {C : ℕ} {e : EltTy} (inb : ∀ b : Fin 8, ∀ a : Fin 2, (![128 * b.val, 0] : Fin 2 → ℕ) a + (![128, C] : Fin 2 → ℕ) a ≤ (⟨2, ![1024, C]⟩ : Shape).size a)
    (X : Fin 8 → (⟨2, ![128, C]⟩ : Shape).Idx → Elt Ideal e) : List (View.Piece (Elt Ideal) ⟨2, ![1024, C]⟩ e) :=
  [⟨Rect.unit (s := ⟨2, ![1024, C]⟩) ![128 * (7 : Fin 8).val, 0] ![128, C] (inb 7), X 7⟩,
   ⟨Rect.unit (s := ⟨2, ![1024, C]⟩) ![128 * (6 : Fin 8).val, 0] ![128, C] (inb 6), X 6⟩,
   ⟨Rect.unit (s := ⟨2, ![1024, C]⟩) ![128 * (5 : Fin 8).val, 0] ![128, C] (inb 5), X 5⟩,
   ⟨Rect.unit (s := ⟨2, ![1024, C]⟩) ![128 * (4 : Fin 8).val, 0] ![128, C] (inb 4), X 4⟩,
   ⟨Rect.unit (s := ⟨2, ![1024, C]⟩) ![128 * (3 : Fin 8).val, 0] ![128, C] (inb 3), X 3⟩,
   ⟨Rect.unit (s := ⟨2, ![1024, C]⟩) ![128 * (2 : Fin 8).val, 0] ![128, C] (inb 2), X 2⟩,
   ⟨Rect.unit (s := ⟨2, ![1024, C]⟩) ![128 * (1 : Fin 8).val, 0] ![128, C] (inb 1), X 1⟩,
   ⟨Rect.unit (s := ⟨2, ![1024, C]⟩) ![128 * (0 : Fin 8).val, 0] ![128, C] (inb 0), X 0⟩]

/-- Eight stores at the row tiles, read at an index. -/
theorem read_rows {C : ℕ} {e : EltTy} {κ : Kind} {sp : Space} (v : View sig κ sp ⟨2, ![1024, C]⟩ e) (f : v.ty.Contents (Elt Ideal))
    (inb : ∀ b : Fin 8, ∀ a : Fin 2, (![128 * b.val, 0] : Fin 2 → ℕ) a + (![128, C] : Fin 2 → ℕ) a ≤ (⟨2, ![1024, C]⟩ : Shape).size a)
    (X : Fin 8 → (⟨2, ![128, C]⟩ : Shape).Idx → Elt Ideal e) (r : Fin 1024) (j : Fin C) (y : Elt Ideal e)
    (hX : ∀ (b : Fin 8) (a : Fin 128), r.val = 128 * b.val + a.val → X b (ix2 a j) = y) :
    v.read (Elt Ideal) (v.writes (Elt Ideal) f (rowPieces inb X)) (ix2 r j) = y := by
  have hit : ∀ b : Fin 8, View.TileAt (ix2 r j) (![128 * b.val, 0] : Fin 2 → ℕ) (![128, C] : Fin 2 → ℕ) (X b) y := by
    intro b x hx
    have h0 : r.val = 128 * b.val + (x 0).val := hx 0
    have h1 : j.val = 0 + (x 1).val := hx 1
    rw [show x = ix2 (x 0) j from funext fun a => by fin_cases a; exacts [rfl, Fin.ext ((Nat.zero_add _).symm.trans h1.symm)]]
    exact hX b (x 0) h0
  have mem : ∀ b : Fin 8, 128 * b.val ≤ r.val ∧ r.val < 128 * b.val + 128 → ix2 r j ∈ (Rect.unit (s := ⟨2, ![1024, C]⟩) ![128 * b.val, 0] ![128, C] (inb b)).set := by
    intro b hb
    rw [Rect.mem_set_unit]
    intro a
    fin_cases a
    exacts [hb, ⟨Nat.zero_le _, (j.isLt).trans_le (Nat.zero_add _).ge⟩]
  have cov : ∃ p ∈ rowPieces inb X, ix2 r j ∈ p.1.set := by
    obtain ⟨b, hb⟩ := row_cases r
    match b, hb with
    | 0, hb => exact ⟨_, .tail _ (.tail _ (.tail _ (.tail _ (.tail _ (.tail _ (.tail _ (.head _))))))), mem 0 hb⟩
    | 1, hb => exact ⟨_, .tail _ (.tail _ (.tail _ (.tail _ (.tail _ (.tail _ (.head _)))))), mem 1 hb⟩
    | 2, hb => exact ⟨_, .tail _ (.tail _ (.tail _ (.tail _ (.tail _ (.head _))))), mem 2 hb⟩
    | 3, hb => exact ⟨_, .tail _ (.tail _ (.tail _ (.tail _ (.head _)))), mem 3 hb⟩
    | 4, hb => exact ⟨_, .tail _ (.tail _ (.tail _ (.head _))), mem 4 hb⟩
    | 5, hb => exact ⟨_, .tail _ (.tail _ (.head _)), mem 5 hb⟩
    | 6, hb => exact ⟨_, .tail _ (.head _), mem 6 hb⟩
    | 7, hb => exact ⟨_, .head _, mem 7 hb⟩
  rw [View.read_writes_apply_eq_canon v f _ _ cov]
  refine View.canon_eq_of_allAt _ _ _ cov ?_
  unfold rowPieces
  iterate 8 refine View.allAt_cons_unit _ _ _ _ _ (hit _) ?_
  exact View.allAt_nil _ _

/-- The first result's block after a grid point. -/
theorem L8_at (H : Inputs D t x1 x2 x3 x4 x5 x6) {κ : Kind} {sp : Space} (v : View sig κ sp S1024x512 .bf16) (f : v.ty.Contents (Elt Ideal)) (r : Fin 1024) (j : Fin 512) :
    v.read (Elt Ideal) (v.writes (Elt Ideal) f (L8 x1 x2 x3 x4 x5 x6)) (ix2 r j) = D.h r (col t j) := by
  refine read_rows v f (by decide)
    ![tile0 x1 x2 x3 x4 x5 x6, tile1 x1 x2 x3 x4 x5 x6, tile2 x1 x2 x3 x4 x5 x6, tile3 x1 x2 x3 x4 x5 x6,
      tile4 x1 x2 x3 x4 x5 x6, tile5 x1 x2 x3 x4 x5 x6, tile6 x1 x2 x3 x4 x5 x6, tile7 x1 x2 x3 x4 x5 x6] r j _ ?_
  intro b a hr
  match b, hr with
  | 0, hr => exact tile0_at H a j r hr
  | 1, hr => exact tile1_at H a j r hr
  | 2, hr => exact tile2_at H a j r hr
  | 3, hr => exact tile3_at H a j r hr
  | 4, hr => exact tile4_at H a j r hr
  | 5, hr => exact tile5_at H a j r hr
  | 6, hr => exact tile6_at H a j r hr
  | 7, hr => exact tile7_at H a j r hr

end Point

end Cert.KernelIdeal.Run

end
-- ==== Proof.StoreAt.lean ====
/-
  A grid point's stores into its slab of the stash and of the partial sums, over the extended reals and read at an index.
-/
module

public import proofs.«01_k».proof.Proof.TileAt

@[expose] public section

noncomputable section

namespace Cert.KernelIdeal.Run

open Cert.KernelIdeal Cert.KernelIdeal.Gen Idealize.ShloMosaic
open Cert.KernelIdeal.Loop (col lane)

/-- The squares of a row of the first result in the columns of block `t` that lane `l` holds, summed. -/
def sq (D : Spec.Data) (t : Fin 10) (r : Fin 1024) (l : Fin 128) : EReal :=
  ∑ s : Fin 4, D.h r (col t (lane l s)) * D.h r (col t (lane l s))

theorem cast_at (X : FVec Ideal S128x128 .f32) (a l : Fin 128) : shapeCast S128x128 X shapeCasts_S128x128_S128x128 (ix2 a l) = X (ix2 a l) := by
  pointwise

variable {D : Spec.Data} {t : Fin 10} {x1 : S2.Idx → Elt Ideal .i32} {x2 : S1024x4096.Idx → Elt Ideal .fp8e4m3} {x3 : S1024x1.Idx → Elt Ideal .f32}
  {x4 : S4096x512.Idx → Elt Ideal .fp8e4m3} {x5 : S1x512.Idx → Elt Ideal .f32} {x6 : S1024x512.Idx → Elt Ideal .bf16}

/-- The first result's tiles in the order of rows. -/
theorem tiles_at (H : Inputs D t x1 x2 x3 x4 x5 x6) (b : Fin 8) (a : Fin 128) (j : Fin 512) (r : Fin 1024) (hr : r.val = 128 * b.val + a.val) :
    (![tile0 x1 x2 x3 x4 x5 x6, tile1 x1 x2 x3 x4 x5 x6, tile2 x1 x2 x3 x4 x5 x6, tile3 x1 x2 x3 x4 x5 x6, tile4 x1 x2 x3 x4 x5 x6, tile5 x1 x2 x3 x4 x5 x6, tile6 x1 x2 x3 x4 x5 x6, tile7 x1 x2 x3 x4 x5 x6] : Fin 8 → FVec Ideal S128x512 .bf16) b (ix2 a j) = D.h r (col t j) := by
  match b, hr with
  | 0, hr => exact tile0_at H a j r hr
  | 1, hr => exact tile1_at H a j r hr
  | 2, hr => exact tile2_at H a j r hr
  | 3, hr => exact tile3_at H a j r hr
  | 4, hr => exact tile4_at H a j r hr
  | 5, hr => exact tile5_at H a j r hr
  | 6, hr => exact tile6_at H a j r hr
  | 7, hr => exact tile7_at H a j r hr

/-- A tile's partial sums. -/
theorem part_of (X : FVec Ideal S128x512 .bf16) (a l : Fin 128) (r : Fin 1024) (h : ∀ j, X (ix2 a j) = D.h r (col t j)) :
    part X (ix2 a l) = sq D t r l := by
  rw [part_at]
  simp only [h]
  rfl

/-- The partial sums after the first point. -/
theorem L12_at (H : Inputs D t x1 x2 x3 x4 x5 x6) {κ : Kind} {sp : Space} (v : View sig κ sp S1024x128 .f32) (f : v.ty.Contents (Elt Ideal)) (r : Fin 1024) (l : Fin 128) :
    v.read (Elt Ideal) (v.writes (Elt Ideal) f (L12 x1 x2 x3 x4 x5 x6)) (ix2 r l) = sq D t r l := by
  refine read_rows v f (by decide)
    ![shapeCast S128x128 (part (tile0 x1 x2 x3 x4 x5 x6)) shapeCasts_S128x128_S128x128,
      shapeCast S128x128 (part (tile1 x1 x2 x3 x4 x5 x6)) shapeCasts_S128x128_S128x128,
      shapeCast S128x128 (part (tile2 x1 x2 x3 x4 x5 x6)) shapeCasts_S128x128_S128x128,
      shapeCast S128x128 (part (tile3 x1 x2 x3 x4 x5 x6)) shapeCasts_S128x128_S128x128,
      shapeCast S128x128 (part (tile4 x1 x2 x3 x4 x5 x6)) shapeCasts_S128x128_S128x128,
      shapeCast S128x128 (part (tile5 x1 x2 x3 x4 x5 x6)) shapeCasts_S128x128_S128x128,
      shapeCast S128x128 (part (tile6 x1 x2 x3 x4 x5 x6)) shapeCasts_S128x128_S128x128,
      shapeCast S128x128 (part (tile7 x1 x2 x3 x4 x5 x6)) shapeCasts_S128x128_S128x128] r l _ ?_
  intro b a hr
  match b, hr with
  | 0, hr => exact (cast_at _ a l).trans (part_of _ a l r fun j => tile0_at H a j r hr)
  | 1, hr => exact (cast_at _ a l).trans (part_of _ a l r fun j => tile1_at H a j r hr)
  | 2, hr => exact (cast_at _ a l).trans (part_of _ a l r fun j => tile2_at H a j r hr)
  | 3, hr => exact (cast_at _ a l).trans (part_of _ a l r fun j => tile3_at H a j r hr)
  | 4, hr => exact (cast_at _ a l).trans (part_of _ a l r fun j => tile4_at H a j r hr)
  | 5, hr => exact (cast_at _ a l).trans (part_of _ a l r fun j => tile5_at H a j r hr)
  | 6, hr => exact (cast_at _ a l).trans (part_of _ a l r fun j => tile6_at H a j r hr)
  | 7, hr => exact (cast_at _ a l).trans (part_of _ a l r fun j => tile7_at H a j r hr)

/-- A row group's earlier sums plus its new ones. -/
theorem added_at (x12 : S1024x128.Idx → Elt Ideal .f32) (o : ℕ) (inb) (P : FVec Ideal S128x128 .f32) (a l : Fin 128) (r : Fin 1024) (hr : r.val = o + a.val) :
    added x12 o inb P (ix2 a l) = x12 (ix2 r l) + P (ix2 a l) := by
  unfold added
  rw [cast_at]
  exact congrArg (fun z : EReal => z + P (ix2 a l)) (View.ld_unit_apply_of x12 _ _ _ _ (ix2 r l) (by intro b; fin_cases b; exacts [hr, (Nat.zero_add _).symm]))

/-- The partial sums after a later point. -/
theorem L12'_at (H : Inputs D t x1 x2 x3 x4 x5 x6) (x12 : S1024x128.Idx → Elt Ideal .f32) {κ : Kind} {sp : Space} (v : View sig κ sp S1024x128 .f32)
    (f : v.ty.Contents (Elt Ideal)) (r : Fin 1024) (l : Fin 128) :
    v.read (Elt Ideal) (v.writes (Elt Ideal) f (L12' x1 x2 x3 x4 x5 x6 x12)) (ix2 r l) = x12 (ix2 r l) + sq D t r l := by
  refine read_rows v f (by decide)
    ![added x12 0 inb_S1024x128_S128x128_0_0 (part (tile0 x1 x2 x3 x4 x5 x6)),
      added x12 128 inb_S1024x128_S128x128_128_0 (part (tile1 x1 x2 x3 x4 x5 x6)),
      added x12 256 inb_S1024x128_S128x128_256_0 (part (tile2 x1 x2 x3 x4 x5 x6)),
      added x12 384 inb_S1024x128_S128x128_384_0 (part (tile3 x1 x2 x3 x4 x5 x6)),
      added x12 512 inb_S1024x128_S128x128_512_0 (part (tile4 x1 x2 x3 x4 x5 x6)),
      added x12 640 inb_S1024x128_S128x128_640_0 (part (tile5 x1 x2 x3 x4 x5 x6)),
      added x12 768 inb_S1024x128_S128x128_768_0 (part (tile6 x1 x2 x3 x4 x5 x6)),
      added x12 896 inb_S1024x128_S128x128_896_0 (part (tile7 x1 x2 x3 x4 x5 x6))] r l _ ?_
  intro b a hr
  match b, hr with
  | 0, hr => exact (added_at x12 _ _ _ a l r hr).trans (congrArg (fun z : EReal => x12 (ix2 r l) + z) (part_of _ a l r fun j => tile0_at H a j r hr))
  | 1, hr => exact (added_at x12 _ _ _ a l r hr).trans (congrArg (fun z : EReal => x12 (ix2 r l) + z) (part_of _ a l r fun j => tile1_at H a j r hr))
  | 2, hr => exact (added_at x12 _ _ _ a l r hr).trans (congrArg (fun z : EReal => x12 (ix2 r l) + z) (part_of _ a l r fun j => tile2_at H a j r hr))
  | 3, hr => exact (added_at x12 _ _ _ a l r hr).trans (congrArg (fun z : EReal => x12 (ix2 r l) + z) (part_of _ a l r fun j => tile3_at H a j r hr))
  | 4, hr => exact (added_at x12 _ _ _ a l r hr).trans (congrArg (fun z : EReal => x12 (ix2 r l) + z) (part_of _ a l r fun j => tile4_at H a j r hr))
  | 5, hr => exact (added_at x12 _ _ _ a l r hr).trans (congrArg (fun z : EReal => x12 (ix2 r l) + z) (part_of _ a l r fun j => tile5_at H a j r hr))
  | 6, hr => exact (added_at x12 _ _ _ a l r hr).trans (congrArg (fun z : EReal => x12 (ix2 r l) + z) (part_of _ a l r fun j => tile6_at H a j r hr))
  | 7, hr => exact (added_at x12 _ _ _ a l r hr).trans (congrArg (fun z : EReal => x12 (ix2 r l) + z) (part_of _ a l r fun j => tile7_at H a j r hr))

/-- A slab's tile, placed. -/
theorem slab_tile (X : FVec Ideal S128x512 .bf16) (off : Fin 3 → ℕ) (o : ℕ) (ho : off = ![t.val, o, 0]) (r : Fin 1024) (j : Fin 512) (y : Elt Ideal .bf16)
    (hX : ∀ a : Fin 128, r.val = o + a.val → X (ix2 a j) = y) :
    View.TileAt (Val := Elt Ideal) (S := S10x1024x512) (e := .bf16) (ix3 t r j) off S1x128x512.size (slab X) y := by
  subst ho
  intro x hx
  have h1 : r.val = o + (x 1).val := hx 1
  have h2 : j.val = 0 + (x 2).val := hx 2
  have h0 : (x 0).val = 0 := Nat.lt_one_iff.1 (x 0).isLt
  have e : x = (ix3 0 (⟨(x 1).val, (x 1).isLt⟩ : Fin 128) j : S1x128x512.Idx) := by
    funext a
    fin_cases a
    exacts [Fin.ext h0, rfl, Fin.ext ((Nat.zero_add _).symm.trans h2.symm)]
  exact (congrArg (slab X) e).trans ((slab_at X _ j).trans (hX _ h1))

/-- A row of slab `t` is under the store of its tile. -/
theorem slab_mem (off : Fin 3 → ℕ) (inb : ∀ a : Fin 3, off a + S1x128x512.size a ≤ S10x1024x512.size a) (o : ℕ) (ho : off = ![t.val, o, 0]) (r : Fin 1024) (j : Fin 512)
    (hr : o ≤ r.val ∧ r.val < o + 128) : (ix3 t r j : S10x1024x512.Idx) ∈ (Rect.unit (s := S10x1024x512) off S1x128x512.size inb).set := by
  subst ho
  rw [Rect.mem_set_unit]
  intro a
  fin_cases a
  exacts [⟨le_refl _, Nat.lt_succ_self _⟩, hr, ⟨Nat.zero_le _, j.isLt.trans_le (Nat.zero_add _).ge⟩]

/-- A row of another slab is not. -/
theorem slab_not_mem (off : Fin 3 → ℕ) (inb : ∀ a : Fin 3, off a + S1x128x512.size a ≤ S10x1024x512.size a) (o : ℕ) (ho : off = ![t.val, o, 0]) (q : Fin 10) (hq : q ≠ t)
    (r : Fin 1024) (j : Fin 512) : (ix3 q r j : S10x1024x512.Idx) ∉ (Rect.unit (s := S10x1024x512) off S1x128x512.size inb).set := by
  subst ho
  rw [Rect.mem_set_unit]
  intro h
  have h0 : t.val ≤ q.val ∧ q.val < t.val + 1 := h 0
  exact hq (Fin.ext (by omega))

/-- The slab that a grid point stores. -/
theorem L11_hit (H : Inputs D t x1 x2 x3 x4 x5 x6) (i : grid0.Coords) (hi : (i 0).val = t.val) {κ : Kind} {sp : Space} (v : View sig κ sp S10x1024x512 .bf16)
    (f : v.ty.Contents (Elt Ideal)) (r : Fin 1024) (j : Fin 512) :
    v.read (Elt Ideal) (v.writes (Elt Ideal) f (L11 x1 x2 x3 x4 x5 x6 i)) (ix3 t r j) = D.h r (col t j) := by
  have cov : ∃ p ∈ L11 x1 x2 x3 x4 x5 x6 i, (ix3 t r j : S10x1024x512.Idx) ∈ p.1.set := by
    obtain ⟨b, hb⟩ := row_cases r
    match b, hb with
    | 0, hb => exact ⟨_, .tail _ (.tail _ (.tail _ (.tail _ (.tail _ (.tail _ (.tail _ (.head _))))))), slab_mem _ (k0_off1_inb i) 0 ((k0_off1_eq i).trans (by rw [hi])) r j hb⟩
    | 1, hb => exact ⟨_, .tail _ (.tail _ (.tail _ (.tail _ (.tail _ (.tail _ (.head _)))))), slab_mem _ (k0_off2_inb i) 128 ((k0_off2_eq i).trans (by rw [hi])) r j hb⟩
    | 2, hb => exact ⟨_, .tail _ (.tail _ (.tail _ (.tail _ (.tail _ (.head _))))), slab_mem _ (k0_off3_inb i) 256 ((k0_off3_eq i).trans (by rw [hi])) r j hb⟩
    | 3, hb => exact ⟨_, .tail _ (.tail _ (.tail _ (.tail _ (.head _)))), slab_mem _ (k0_off4_inb i) 384 ((k0_off4_eq i).trans (by rw [hi])) r j hb⟩
    | 4, hb => exact ⟨_, .tail _ (.tail _ (.tail _ (.head _))), slab_mem _ (k0_off5_inb i) 512 ((k0_off5_eq i).trans (by rw [hi])) r j hb⟩
    | 5, hb => exact ⟨_, .tail _ (.tail _ (.head _)), slab_mem _ (k0_off6_inb i) 640 ((k0_off6_eq i).trans (by rw [hi])) r j hb⟩
    | 6, hb => exact ⟨_, .tail _ (.head _), slab_mem _ (k0_off7_inb i) 768 ((k0_off7_eq i).trans (by rw [hi])) r j hb⟩
    | 7, hb => exact ⟨_, .head _, slab_mem _ (k0_off8_inb i) 896 ((k0_off8_eq i).trans (by rw [hi])) r j hb⟩
  rw [View.read_writes_apply_eq_canon v f _ _ cov]
  refine View.canon_eq_of_allAt _ _ _ cov ?_
  unfold L11
  refine View.allAt_cons_unit _ _ _ _ _ (slab_tile _ _ 896 ((k0_off8_eq i).trans (by rw [hi])) r j _ fun a hr => tile7_at H a j r hr) ?_
  refine View.allAt_cons_unit _ _ _ _ _ (slab_tile _ _ 768 ((k0_off7_eq i).trans (by rw [hi])) r j _ fun a hr => tile6_at H a j r hr) ?_
  refine View.allAt_cons_unit _ _ _ _ _ (slab_tile _ _ 640 ((k0_off6_eq i).trans (by rw [hi])) r j _ fun a hr => tile5_at H a j r hr) ?_
  refine View.allAt_cons_unit _ _ _ _ _ (slab_tile _ _ 512 ((k0_off5_eq i).trans (by rw [hi])) r j _ fun a hr => tile4_at H a j r hr) ?_
  refine View.allAt_cons_unit _ _ _ _ _ (slab_tile _ _ 384 ((k0_off4_eq i).trans (by rw [hi])) r j _ fun a hr => tile3_at H a j r hr) ?_
  refine View.allAt_cons_unit _ _ _ _ _ (slab_tile _ _ 256 ((k0_off3_eq i).trans (by rw [hi])) r j _ fun a hr => tile2_at H a j r hr) ?_
  refine View.allAt_cons_unit _ _ _ _ _ (slab_tile _ _ 128 ((k0_off2_eq i).trans (by rw [hi])) r j _ fun a hr => tile1_at H a j r hr) ?_
  refine View.allAt_cons_unit _ _ _ _ _ (slab_tile _ _ 0 ((k0_off1_eq i).trans (by rw [hi])) r j _ fun a hr => tile0_at H a j r hr) ?_
  exact View.allAt_nil _ _

/-- The slabs that it leaves. -/
theorem L11_miss (i : grid0.Coords) (q : Fin 10) (hq : q.val ≠ (i 0).val) {κ : Kind} {sp : Space} (v : View sig κ sp S10x1024x512 .bf16)
    (f : v.ty.Contents (Elt Ideal)) (r : Fin 1024) (j : Fin 512) :
    v.read (Elt Ideal) (v.writes (Elt Ideal) f (L11 x1 x2 x3 x4 x5 x6 i)) (ix3 q r j) = v.read (Elt Ideal) f (ix3 q r j) := by
  have hq' : q ≠ ⟨(i 0).val, (i 0).isLt⟩ := fun h => hq (congrArg Fin.val h)
  refine View.read_writes_apply_of_forall_not_mem v f _ _ ?_
  unfold L11
  simp only [List.forall_mem_cons, List.not_mem_nil, false_imp_iff, implies_true, and_true]
  exact ⟨slab_not_mem _ _ _ (k0_off8_eq i) q hq' r j,
    slab_not_mem _ _ _ (k0_off7_eq i) q hq' r j,
    slab_not_mem _ _ _ (k0_off6_eq i) q hq' r j,
    slab_not_mem _ _ _ (k0_off5_eq i) q hq' r j,
    slab_not_mem _ _ _ (k0_off4_eq i) q hq' r j,
    slab_not_mem _ _ _ (k0_off3_eq i) q hq' r j,
    slab_not_mem _ _ _ (k0_off2_eq i) q hq' r j,
    slab_not_mem _ _ _ (k0_off1_eq i) q hq' r j⟩

end Cert.KernelIdeal.Run

end
-- ==== Proof.LoopRun.lean ====
/-
  What the last grid point's loop leaves, over the extended reals: every row's codes and scale.
-/
module

public import proofs.«01_k».proof.Proof.LoopForm
public import proofs.«01_k».proof.Proof.StoreAt

@[expose] public section

noncomputable section

namespace Cert.KernelIdeal.Loop

open Cert.KernelIdeal Cert.KernelIdeal.Gen Idealize.ShloMosaic Idealize.SL.Sem
open Cert.KernelIdeal.Run (sq)

variable (D : Spec.Data)

/-- The trip's partial sums, at a row. -/
theorem sums_at (arg12 : Memref sig .tc .vmem S1024x128 .f32) (X : BufTy.Contents (Elt Ideal) arg12.view.ty) (i : grid0.Coords)
    (k : Fin k0_t1_loop.trips) (h17 : k0_cond17 i = 1#1) (a : Fin 32) (r : Fin 1024) (hr : r.val = 32 * k.val + a.val) (l : Fin 128) :
    sums arg12 X i k h17 (ix2 a l) = arg12.view.read (Elt Ideal) X (ix2 r l) := by
  have one : ∀ (off : Fin 2 → ℕ) (inb : ∀ b : Fin 2, off b + S32x128.size b ≤ S1024x128.size b), off = ![32 * k.val, 0] →
      View.readAt (Elt Ideal) arg12.view (Rect.unit (s := S1024x128) off S32x128.size inb).toLoadRect X (ix2 a l) = arg12.view.read (Elt Ideal) X (ix2 r l) := by
    intro off inb ho
    subst ho
    refine View.ld_unit_apply_of (arg12.view.read (Elt Ideal) X) _ _ _ _ (ix2 r l) fun b => ?_
    fin_cases b
    exacts [hr, (Nat.zero_add _).symm]
  exact one _ (k0_off9_inb i k h17) (k0_off9_eq k)

/-- The trip's stashed tiles, at a row. -/
theorem tiles_at (arg11 : Memref sig .tc .vmem S10x1024x512 .bf16) (X : BufTy.Contents (Elt Ideal) arg11.view.ty) (i : grid0.Coords)
    (k : Fin k0_t1_loop.trips) (h17 : k0_cond17 i = 1#1) (a : Fin 32) (r : Fin 1024) (hr : r.val = 32 * k.val + a.val) (p : Fin 10) (j : Fin 512) :
    tiles arg11 X i k h17 p (ix3 0 a j) = arg11.view.read (Elt Ideal) X (ix3 p r j) := by
  have one : ∀ (off : Fin 3 → ℕ) (inb : ∀ b : Fin 3, off b + S1x32x512.size b ≤ S10x1024x512.size b), off = ![p.val, 32 * k.val, 0] →
      View.readAt (Elt Ideal) arg11.view (Rect.unit (s := S10x1024x512) off S1x32x512.size inb).toLoadRect X (ix3 0 a j) = arg11.view.read (Elt Ideal) X (ix3 p r j) := by
    intro off inb ho
    subst ho
    refine View.ld_unit_apply_of (arg11.view.read (Elt Ideal) X) _ _ _ _ (ix3 p r j) fun b => ?_
    fin_cases b
    exacts [rfl, hr, (Nat.zero_add _).symm]
  match p, one with
  | 0, one => exact one _ (k0_off10_inb i k h17) (k0_off10_eq k)
  | 1, one => exact one _ (k0_off11_inb i k h17) (k0_off11_eq k)
  | 2, one => exact one _ (k0_off12_inb i k h17) (k0_off12_eq k)
  | 3, one => exact one _ (k0_off13_inb i k h17) (k0_off13_eq k)
  | 4, one => exact one _ (k0_off14_inb i k h17) (k0_off14_eq k)
  | 5, one => exact one _ (k0_off15_inb i k h17) (k0_off15_eq k)
  | 6, one => exact one _ (k0_off16_inb i k h17) (k0_off16_eq k)
  | 7, one => exact one _ (k0_off17_inb i k h17) (k0_off17_eq k)
  | 8, one => exact one _ (k0_off18_inb i k h17) (k0_off18_eq k)
  | 9, one => exact one _ (k0_off19_inb i k h17) (k0_off19_eq k)

/-- The tiles of gains. -/
theorem gains_at (arg7 : Memref sig .tc .vmem S1x5120 .f32) (X : BufTy.Contents (Elt Ideal) arg7.view.ty) (p : Fin 10) (j : Fin 512) :
    gains arg7 X p (ix2 0 j) = arg7.view.read (Elt Ideal) X (ix2 0 (col p j)) := by
  have one : ∀ (o : ℕ) (inb : ∀ b : Fin 2, (![0, o] : Fin 2 → ℕ) b + S1x512.size b ≤ S1x5120.size b), o = 512 * p.val →
      View.readAt (Elt Ideal) arg7.view (Rect.unit (s := S1x5120) ![0, o] S1x512.size inb).toLoadRect X (ix2 0 j) = arg7.view.read (Elt Ideal) X (ix2 0 (col p j)) := by
    intro o inb ho
    subst ho
    refine View.ld_unit_apply_of (arg7.view.read (Elt Ideal) X) _ _ _ _ (ix2 0 (col p j)) fun b => ?_
    fin_cases b
    exacts [rfl, rfl]
  match p, one with
  | 0, one => exact one _ inb_S1x5120_S1x512_0_0 rfl
  | 1, one => exact one _ inb_S1x5120_S1x512_0_512 rfl
  | 2, one => exact one _ inb_S1x5120_S1x512_0_1024 rfl
  | 3, one => exact one _ inb_S1x5120_S1x512_0_1536 rfl
  | 4, one => exact one _ inb_S1x5120_S1x512_0_2048 rfl
  | 5, one => exact one _ inb_S1x5120_S1x512_0_2560 rfl
  | 6, one => exact one _ inb_S1x5120_S1x512_0_3072 rfl
  | 7, one => exact one _ inb_S1x5120_S1x512_0_3584 rfl
  | 8, one => exact one _ inb_S1x5120_S1x512_0_4096 rfl
  | 9, one => exact one _ inb_S1x5120_S1x512_0_4608 rfl

/-- A tile of codes, placed. -/
theorem code_tile (C : FVec Ideal S32x512 .fp8e4m3) (off : Fin 2 → ℕ) (k : ℕ) (p : Fin 10) (ho : off = ![32 * k, 512 * p.val]) (r : Fin 1024) (c : Fin 5120) (y : Elt Ideal .fp8e4m3)
    (hC : ∀ (a : Fin 32) (j : Fin 512), r.val = 32 * k + a.val → c = col p j → C (ix2 a j) = y) :
    View.TileAt (Val := Elt Ideal) (S := S1024x5120) (e := .fp8e4m3) (ix2 r c) off S32x512.size C y := by
  subst ho
  intro x hx
  have h0 : r.val = 32 * k + (x 0).val := hx 0
  have h1 : c.val = 512 * p.val + (x 1).val := hx 1
  have e : x = (ix2 (⟨(x 0).val, (x 0).isLt⟩ : Fin 32) (⟨(x 1).val, (x 1).isLt⟩ : Fin 512) : S32x512.Idx) := by
    funext a
    fin_cases a <;> rfl
  exact (congrArg C e).trans (hC _ _ h0 (Fin.ext h1))

/-- A row of the trip is under the store of its tile. -/
theorem code_mem (off : Fin 2 → ℕ) (inb : ∀ a : Fin 2, off a + S32x512.size a ≤ S1024x5120.size a) (k : ℕ) (p : Fin 10) (ho : off = ![32 * k, 512 * p.val]) (r : Fin 1024) (j : Fin 512)
    (hr : 32 * k ≤ r.val ∧ r.val < 32 * k + 32) : (ix2 r (col p j) : S1024x5120.Idx) ∈ (Rect.unit (s := S1024x5120) off S32x512.size inb).set := by
  subst ho
  rw [Rect.mem_set_unit]
  intro a
  fin_cases a
  exacts [hr, ⟨Nat.le_add_right _ _, Nat.add_lt_add_left j.isLt _⟩]

/-- A row of an earlier trip is not. -/
theorem code_not_mem (off : Fin 2 → ℕ) (inb : ∀ a : Fin 2, off a + S32x512.size a ≤ S1024x5120.size a) (k : ℕ) (q : ℕ) (ho : off = ![32 * k, q]) (r : Fin 1024) (c : Fin 5120)
    (hr : r.val < 32 * k) : (ix2 r c : S1024x5120.Idx) ∉ (Rect.unit (s := S1024x5120) off S32x512.size inb).set := by
  subst ho
  rw [Rect.mem_set_unit]
  intro h
  exact absurd (h 0).1 (Nat.not_le.2 hr)

/-- A trip's codes, read at one of its rows. -/
theorem stores9_hit (i : grid0.Coords) (k : Fin k0_t1_loop.trips) (h17 : k0_cond17 i = 1#1) (C : Fin 10 → FVec Ideal S32x512 .fp8e4m3)
    {κ : Kind} {sp : Space} (v : View sig κ sp S1024x5120 .fp8e4m3) (f : v.ty.Contents (Elt Ideal)) (r : Fin 1024) (c : Fin 5120) (y : Elt Ideal .fp8e4m3)
    (hr : 32 * k.val ≤ r.val ∧ r.val < 32 * k.val + 32)
    (hC : ∀ (p : Fin 10) (a : Fin 32) (j : Fin 512), r.val = 32 * k.val + a.val → c = col p j → C p (ix2 a j) = y) :
    v.read (Elt Ideal) (v.writes (Elt Ideal) f (stores9 i k h17 C)) (ix2 r c) = y := by
  have cov : ∃ p ∈ stores9 i k h17 C, (ix2 r c : S1024x5120.Idx) ∈ p.1.set := by
    obtain ⟨p, j, rfl⟩ := exists_col c
    match p with
    | 0 => exact ⟨_, .tail _ (.tail _ (.tail _ (.tail _ (.tail _ (.tail _ (.tail _ (.tail _ (.tail _ (.head _))))))))), code_mem _ (k0_off21_inb i k h17) k.val 0 (k0_off21_eq k) r j hr⟩
    | 1 => exact ⟨_, .tail _ (.tail _ (.tail _ (.tail _ (.tail _ (.tail _ (.tail _ (.tail _ (.head _)))))))), code_mem _ (k0_off22_inb i k h17) k.val 1 (k0_off22_eq k) r j hr⟩
    | 2 => exact ⟨_, .tail _ (.tail _ (.tail _ (.tail _ (.tail _ (.tail _ (.tail _ (.head _))))))), code_mem _ (k0_off23_inb i k h17) k.val 2 (k0_off23_eq k) r j hr⟩
    | 3 => exact ⟨_, .tail _ (.tail _ (.tail _ (.tail _ (.tail _ (.tail _ (.head _)))))), code_mem _ (k0_off24_inb i k h17) k.val 3 (k0_off24_eq k) r j hr⟩
    | 4 => exact ⟨_, .tail _ (.tail _ (.tail _ (.tail _ (.tail _ (.head _))))), code_mem _ (k0_off25_inb i k h17) k.val 4 (k0_off25_eq k) r j hr⟩
    | 5 => exact ⟨_, .tail _ (.tail _ (.tail _ (.tail _ (.head _)))), code_mem _ (k0_off26_inb i k h17) k.val 5 (k0_off26_eq k) r j hr⟩
    | 6 => exact ⟨_, .tail _ (.tail _ (.tail _ (.head _))), code_mem _ (k0_off27_inb i k h17) k.val 6 (k0_off27_eq k) r j hr⟩
    | 7 => exact ⟨_, .tail _ (.tail _ (.head _)), code_mem _ (k0_off28_inb i k h17) k.val 7 (k0_off28_eq k) r j hr⟩
    | 8 => exact ⟨_, .tail _ (.head _), code_mem _ (k0_off29_inb i k h17) k.val 8 (k0_off29_eq k) r j hr⟩
    | 9 => exact ⟨_, .head _, code_mem _ (k0_off30_inb i k h17) k.val 9 (k0_off30_eq k) r j hr⟩
  rw [View.read_writes_apply_eq_canon v f _ _ cov]
  refine View.canon_eq_of_allAt _ _ _ cov ?_
  unfold stores9
  refine View.allAt_cons_unit _ _ _ _ _ (code_tile _ _ k.val 9 (k0_off30_eq k) r c _ (hC 9)) ?_
  refine View.allAt_cons_unit _ _ _ _ _ (code_tile _ _ k.val 8 (k0_off29_eq k) r c _ (hC 8)) ?_
  refine View.allAt_cons_unit _ _ _ _ _ (code_tile _ _ k.val 7 (k0_off28_eq k) r c _ (hC 7)) ?_
  refine View.allAt_cons_unit _ _ _ _ _ (code_tile _ _ k.val 6 (k0_off27_eq k) r c _ (hC 6)) ?_
  refine View.allAt_cons_unit _ _ _ _ _ (code_tile _ _ k.val 5 (k0_off26_eq k) r c _ (hC 5)) ?_
  refine View.allAt_cons_unit _ _ _ _ _ (code_tile _ _ k.val 4 (k0_off25_eq k) r c _ (hC 4)) ?_
  refine View.allAt_cons_unit _ _ _ _ _ (code_tile _ _ k.val 3 (k0_off24_eq k) r c _ (hC 3)) ?_
  refine View.allAt_cons_unit _ _ _ _ _ (code_tile _ _ k.val 2 (k0_off23_eq k) r c _ (hC 2)) ?_
  refine View.allAt_cons_unit _ _ _ _ _ (code_tile _ _ k.val 1 (k0_off22_eq k) r c _ (hC 1)) ?_
  refine View.allAt_cons_unit _ _ _ _ _ (code_tile _ _ k.val 0 (k0_off21_eq k) r c _ (hC 0)) ?_
  exact View.allAt_nil _ _

/-- A trip's codes leave the rows of earlier trips. -/
theorem stores9_miss (i : grid0.Coords) (k : Fin k0_t1_loop.trips) (h17 : k0_cond17 i = 1#1) (C : Fin 10 → FVec Ideal S32x512 .fp8e4m3)
    {κ : Kind} {sp : Space} (v : View sig κ sp S1024x5120 .fp8e4m3) (f : v.ty.Contents (Elt Ideal)) (r : Fin 1024) (c : Fin 5120) (hr : r.val < 32 * k.val) :
    v.read (Elt Ideal) (v.writes (Elt Ideal) f (stores9 i k h17 C)) (ix2 r c) = v.read (Elt Ideal) f (ix2 r c) := by
  refine View.read_writes_apply_of_forall_not_mem v f _ _ ?_
  unfold stores9
  simp only [List.forall_mem_cons, List.not_mem_nil, false_imp_iff, implies_true, and_true]
  exact ⟨code_not_mem _ _ k.val _ (k0_off30_eq k) r c hr,
    code_not_mem _ _ k.val _ (k0_off29_eq k) r c hr,
    code_not_mem _ _ k.val _ (k0_off28_eq k) r c hr,
    code_not_mem _ _ k.val _ (k0_off27_eq k) r c hr,
    code_not_mem _ _ k.val _ (k0_off26_eq k) r c hr,
    code_not_mem _ _ k.val _ (k0_off25_eq k) r c hr,
    code_not_mem _ _ k.val _ (k0_off24_eq k) r c hr,
    code_not_mem _ _ k.val _ (k0_off23_eq k) r c hr,
    code_not_mem _ _ k.val _ (k0_off22_eq k) r c hr,
    code_not_mem _ _ k.val _ (k0_off21_eq k) r c hr⟩

/-- A trip's scales, read at one of its rows. -/
theorem stores10_hit (i : grid0.Coords) (k : Fin k0_t1_loop.trips) (h17 : k0_cond17 i = 1#1) (C : FVec Ideal S32x1 .f32)
    {κ : Kind} {sp : Space} (v : View sig κ sp S1024x1 .f32) (f : v.ty.Contents (Elt Ideal)) (r : Fin 1024) (a : Fin 32) (hr : r.val = 32 * k.val + a.val) :
    v.read (Elt Ideal) (v.writes (Elt Ideal) f (stores10 i k h17 C)) (ix2 r 0) = C (ix2 a 0) :=
  View.read_writes_cons_unit_of_mem v f _ C [] (ix2 r 0) (ix2 a 0) (k0_off20_eq k) (by intro b; fin_cases b; exacts [hr, rfl])

/-- A trip's scales leave the rows of earlier trips. -/
theorem stores10_miss (i : grid0.Coords) (k : Fin k0_t1_loop.trips) (h17 : k0_cond17 i = 1#1) (C : FVec Ideal S32x1 .f32)
    {κ : Kind} {sp : Space} (v : View sig κ sp S1024x1 .f32) (f : v.ty.Contents (Elt Ideal)) (r : Fin 1024) (hr : r.val < 32 * k.val) :
    v.read (Elt Ideal) (v.writes (Elt Ideal) f (stores10 i k h17 C)) (ix2 r 0) = v.read (Elt Ideal) f (ix2 r 0) :=
  View.read_writes_cons_unit_of_not_mem v f _ C [] (ix2 r 0) (k0_off20_eq k) 0 (Or.inl hr)

/-- The codes of the rows of the first `n` trips. -/
theorem loop9  (𝒱 : Variants) (c : Dev nD) (bd : Option 𝒱.V) (i : grid0.Coords) (arg1 : Memref sig .tc .smem S2 .i32) (harg1 : arg1.IsWhole) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1x5120 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S10x1024x512 .bf16) (harg11 : arg11.IsWhole) (arg12 : Memref sig .tc .vmem S1024x128 .f32) (harg12 : arg12.IsWhole) (k0_h17 : k0_cond17 i = 1#1) (X_arg7 : BufTy.Contents (Elt Ideal) arg7.view.ty) (X_arg11 : BufTy.Contents (Elt Ideal) arg11.view.ty) (X_arg12 : BufTy.Contents (Elt Ideal) arg12.view.ty)
    (h7 : ∀ c, arg7.view.read (Elt Ideal) X_arg7 (ix2 0 c) = D.g c)
    (h11 : ∀ p r j, arg11.view.read (Elt Ideal) X_arg11 (ix3 p r j) = D.h r (col p j))
    (h12 : ∀ r l, arg12.view.read (Elt Ideal) X_arg12 (ix2 r l) = ∑ p : Fin 10, sq D p r l) (f : arg9.view.ty.Contents (Elt Ideal)) :
    ∀ n, n ≤ k0_t1_loop.trips → ∀ (r : Fin 1024) (c' : Fin 5120) (hr : r.val < 32 * n),
      arg9.view.read (Elt Ideal) (arg9.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h17 X_arg7 X_arg11 X_arg12 n).1) (ix2 r c') = D.codes r c'
  | 0, _, r, c', hr => absurd hr (by omega)
  | n + 1, hn, r, c', hr => by
    obtain ⟨k, hk⟩ : ∃ k : Fin k0_t1_loop.trips, k.val = n := ⟨⟨n, hn⟩, rfl⟩
    subst hk
    rw [pb_k0_t1_succ]
    show arg9.view.read (Elt Ideal) (arg9.view.writes (Elt Ideal) f ((tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h17 X_arg7 X_arg11 X_arg12 k).1 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h17 X_arg7 X_arg11 X_arg12 k.val).1)) (ix2 r c') = _
    rw [View.writes_append, trip9]
    by_cases h : 32 * k.val ≤ r.val
    · have hr' : r.val < 32 * k.val + 32 := by omega
      exact stores9_hit i k k0_h17 _ arg9.view _ r c' _ ⟨h, hr'⟩ fun p a j ha hc => by
        rw [hc, codes_at _ _ _ (D.h r) D.g a (fun l => (sums_at arg12 X_arg12 i k k0_h17 a r ha l).trans (h12 r l))
        (fun p j => (tiles_at arg11 X_arg11 i k k0_h17 a r ha p j).trans (h11 p r j)) (fun p j => (gains_at arg7 X_arg7 p j).trans (h7 _))]
        rfl
    · rw [stores9_miss i k k0_h17 _ arg9.view _ r c' (by omega)]
      exact loop9 𝒱 c bd i arg1 harg1 arg2 harg2 arg3 harg3 arg4 harg4 arg5 harg5 arg6 harg6 arg7 harg7 arg8 harg8 arg9 harg9 arg10 harg10 arg11 harg11 arg12 harg12 k0_h17 X_arg7 X_arg11 X_arg12 h7 h11 h12 f k.val (by omega) r c' (by omega)

/-- The scales of the rows of the first `n` trips. -/
theorem loop10  (𝒱 : Variants) (c : Dev nD) (bd : Option 𝒱.V) (i : grid0.Coords) (arg1 : Memref sig .tc .smem S2 .i32) (harg1 : arg1.IsWhole) (arg2 : Memref sig .tc .vmem S1024x4096 .fp8e4m3) (harg2 : arg2.IsWhole) (arg3 : Memref sig .tc .vmem S1024x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1x5120 .f32) (harg7 : arg7.IsWhole) (arg8 : Memref sig .tc .vmem S1024x512 .bf16) (harg8 : arg8.IsWhole) (arg9 : Memref sig .tc .vmem S1024x5120 .fp8e4m3) (harg9 : arg9.IsWhole) (arg10 : Memref sig .tc .vmem S1024x1 .f32) (harg10 : arg10.IsWhole) (arg11 : Memref sig .tc .vmem S10x1024x512 .bf16) (harg11 : arg11.IsWhole) (arg12 : Memref sig .tc .vmem S1024x128 .f32) (harg12 : arg12.IsWhole) (k0_h17 : k0_cond17 i = 1#1) (X_arg7 : BufTy.Contents (Elt Ideal) arg7.view.ty) (X_arg11 : BufTy.Contents (Elt Ideal) arg11.view.ty) (X_arg12 : BufTy.Contents (Elt Ideal) arg12.view.ty)
    (h7 : ∀ c, arg7.view.read (Elt Ideal) X_arg7 (ix2 0 c) = D.g c)
    (h11 : ∀ p r j, arg11.view.read (Elt Ideal) X_arg11 (ix3 p r j) = D.h r (col p j))
    (h12 : ∀ r l, arg12.view.read (Elt Ideal) X_arg12 (ix2 r l) = ∑ p : Fin 10, sq D p r l) (f : arg10.view.ty.Contents (Elt Ideal)) :
    ∀ n, n ≤ k0_t1_loop.trips → ∀ (r : Fin 1024) (hr : r.val < 32 * n),
      arg10.view.read (Elt Ideal) (arg10.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h17 X_arg7 X_arg11 X_arg12 n).2) (ix2 r 0) = D.scales r
  | 0, _, r, hr => absurd hr (by omega)
  | n + 1, hn, r, hr => by
    obtain ⟨k, hk⟩ : ∃ k : Fin k0_t1_loop.trips, k.val = n := ⟨⟨n, hn⟩, rfl⟩
    subst hk
    rw [pb_k0_t1_succ]
    show arg10.view.read (Elt Ideal) (arg10.view.writes (Elt Ideal) f ((tripL_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h17 X_arg7 X_arg11 X_arg12 k).2 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h17 X_arg7 X_arg11 X_arg12 k.val).2)) (ix2 r 0) = _
    rw [View.writes_append, trip10]
    by_cases h : 32 * k.val ≤ r.val
    · have hr' : r.val < 32 * k.val + 32 := by omega
      obtain ⟨a, ha⟩ : ∃ a : Fin 32, r.val = 32 * k.val + a.val := ⟨⟨r.val - 32 * k.val, by omega⟩, by show r.val = 32 * k.val + (r.val - 32 * k.val); omega⟩
      rw [stores10_hit i k k0_h17 _ arg10.view _ r a ha, scales_at _ _ _ (D.h r) D.g a (fun l => (sums_at arg12 X_arg12 i k k0_h17 a r ha l).trans (h12 r l))
        (fun p j => (tiles_at arg11 X_arg11 i k k0_h17 a r ha p j).trans (h11 p r j)) (fun p j => (gains_at arg7 X_arg7 p j).trans (h7 _))]
      rfl
    · rw [stores10_miss i k k0_h17 _ arg10.view _ r (by omega)]
      exact loop10 𝒱 c bd i arg1 harg1 arg2 harg2 arg3 harg3 arg4 harg4 arg5 harg5 arg6 harg6 arg7 harg7 arg8 harg8 arg9 harg9 arg10 harg10 arg11 harg11 arg12 harg12 k0_h17 X_arg7 X_arg11 X_arg12 h7 h11 h12 f k.val (by omega) r (by omega)

end Cert.KernelIdeal.Loop

end
-- ==== Proof.PointAt.lean ====
/-
  What each grid point leaves, over the extended reals: after point `t` the stash holds the tiles of the first result up
  to `t`, the partial sums are those of the tiles up to `t`, and after the last point the codes and the scales are stored.
-/
module

public import proofs.«01_k».proof.Proof.KernelIdealAny
public import proofs.«01_k».proof.Proof.ValFirst
public import proofs.«01_k».proof.Proof.ValMid
public import proofs.«01_k».proof.Proof.ValLast
public import proofs.«01_k».proof.Proof.LoopRun

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

open Cert.KernelIdeal.Loop (col lane)

local notation "𝕄" => MT nD τ sig Unit (Elt Ideal) ℕ (UR sig nD τ) ℕ

variable (D : Spec.Data)

/-- What the points leave: before point `n` the first `n` tiles and their partial sums of squares. -/
def leaves : Leaves Ideal where
  scratch n f11 f12 := (∀ q : Fin 10, q.val < n → ∀ r j, f11 (ix3 q r j) = D.h r (col q j))
    ∧ (0 < n → ∀ r l, f12 (ix2 r l) = ∑ p : Fin 10, if p.val < n then sq D p r l else 0)
  h n X := ∀ t : Fin 10, t.val = n → ∀ r j, X (ix2 r j) = D.h r (col t j)
  n n X := n = 9 → ∀ r c, X (ix2 r c) = D.codes r c
  ns n X := n = 9 → ∀ r, X (ix2 r 0) = D.scales r

/-- One more tile's term in a sum over the tiles so far. -/
theorem sum_step (f : Fin 10 → EReal) (t : Fin 10) :
    (∑ p : Fin 10, if p.val < t.val then f p else 0) + f t = ∑ p : Fin 10, if p.val < t.val + 1 then f p else 0 := by
  have e : f t = ∑ p : Fin 10, if p = t then f p else 0 := by simp
  conv_lhs => rw [e]
  rw [← Finset.sum_add_distrib]
  refine Finset.sum_congr rfl fun p _ => ?_
  by_cases h1 : p.val < t.val
  · have h2 : p ≠ t := fun h => by subst h; omega
    have h3 : p.val < t.val + 1 := by omega
    simp [h1, h2, h3]
  · by_cases h2 : p = t
    · subst h2; simp
    · have h3 : ¬ p.val < t.val + 1 := fun h => h2 (Fin.ext (by omega))
      simp [h1, h2, h3]

/-- A triple's pure fact brought to the front and weakened. -/
theorem weaken {A B C D E : Type} {q1 q2 q3 q4 q5 q6 q7 q8 q9 q10 q11 q12 : A → B → C → D → E → sProp 𝕄} {R S : A → B → C → D → E → Prop}
    (h : ∀ a b c d e, R a b c d e → S a b c d e) :
    (iprop(∃ a b c d e, q1 a b c d e ∗ q2 a b c d e ∗ q3 a b c d e ∗ q4 a b c d e ∗ q5 a b c d e ∗ q6 a b c d e ∗ q7 a b c d e ∗ q8 a b c d e ∗ q9 a b c d e ∗ q10 a b c d e ∗ q11 a b c d e ∗ q12 a b c d e ∗ ⌜R a b c d e⌝) : sProp 𝕄)
      ⊢ iprop(∃ a b c d e, ⌜S a b c d e⌝ ∗ q1 a b c d e ∗ q2 a b c d e ∗ q3 a b c d e ∗ q4 a b c d e ∗ q5 a b c d e ∗ q6 a b c d e ∗ q7 a b c d e ∗ q8 a b c d e ∗ q9 a b c d e ∗ q10 a b c d e ∗ q11 a b c d e ∗ q12 a b c d e) := by
  iintro ⟨%a, %b, %c, %d, %e, H1, H2, H3, H4, H5, H6, H7, H8, H9, H10, H11, H12, %hR⟩
  iexists a, b, c, d, e
  isplitr; · ipureintro; exact h _ _ _ _ _ hR
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

variable (m : (ℓ : Loc nD τ sig) → Buf (Elt Ideal) ℓ)

/-- The launch's inputs are the data. -/
def Holds : Prop := ∀ (c : Dev nD) (t : Fin grid0.N), (∀ u : Fin 10, u.val = t.val → Inputs D u (lens m c) (xBlk m c t) (xsBlk m c t) (wBlk m c t) (wsBlk m c t) (resBlk m c t))
  ∧ ∀ j, gBlk m c t (ix2 0 j) = D.g j

set_option maxHeartbeats 1000000 in
/-- Every point takes what is known before it to what is known after it. -/
theorem pointAt (hm : Holds D m) : PointRun m (leaves D) := by
  intro c t arg1 harg1 arg2 harg2 arg3 harg3 arg4 harg4 arg5 harg5 arg6 harg6 arg7 harg7 arg8 harg8 arg9 harg9 arg10 harg10 arg11 harg11 arg12 harg12 x8 x9 x10 x11 x12 hS
  have hv := coords_val t
  have ht : t.val < 10 := t.isLt
  obtain ⟨u, hu⟩ : ∃ u : Fin 10, u.val = t.val := ⟨⟨t.val, ht⟩, rfl⟩
  have H := (hm c t).1 u hu
  have Hg := (hm c t).2
  have hh : ∀ (f : arg8.view.ty.Contents (Elt Ideal)) (s : Fin 10), s.val = t.val → ∀ r j,
      arg8.view.read (Elt Ideal) (arg8.view.writes (Elt Ideal) f (L8 (lens m c) (xBlk m c t) (xsBlk m c t) (wBlk m c t) (wsBlk m c t) (resBlk m c t))) (ix2 r j) = D.h r (col s j) := by
    intro f s hs r j
    obtain rfl : s = u := Fin.ext (hs.trans hu.symm)
    exact L8_at H _ f r j
  have hst : ∀ (f : arg11.view.ty.Contents (Elt Ideal)), arg11.view.read (Elt Ideal) f = x11 → ∀ q : Fin 10, q.val < t.val + 1 → ∀ r j,
      arg11.view.read (Elt Ideal) (arg11.view.writes (Elt Ideal) f (L11 (lens m c) (xBlk m c t) (xsBlk m c t) (wBlk m c t) (wsBlk m c t) (resBlk m c t) (grid0.coords t))) (ix3 q r j) = D.h r (col q j) := by
    intro f hf q hq r j
    by_cases hqt : q.val = t.val
    · obtain rfl : q = u := Fin.ext (hqt.trans hu.symm)
      exact L11_hit H (grid0.coords t) (hv.trans hu.symm) arg11.view f r j
    · rw [L11_miss (grid0.coords t) q (by omega), hf]
      exact hS.1 q (by omega) r j
  have hss : t.val ≠ 0 → ∀ (f : arg12.view.ty.Contents (Elt Ideal)) r l,
      arg12.view.read (Elt Ideal) (arg12.view.writes (Elt Ideal) f (L12' (lens m c) (xBlk m c t) (xsBlk m c t) (wBlk m c t) (wsBlk m c t) (resBlk m c t) x12)) (ix2 r l)
        = ∑ p : Fin 10, if p.val < t.val + 1 then sq D p r l else 0 := by
    intro h0 f r l
    rw [L12'_at H, hS.2 (by omega) r l, ← hu]
    exact sum_step (fun p => sq D p r l) u
  by_cases h0 : t.val = 0
  · refine (Val.runFirst c (grid0.coords t) arg1 harg1 arg2 harg2 arg3 harg3 arg4 harg4 arg5 harg5 arg6 harg6 arg7 harg7 arg8 harg8 arg9 harg9 arg10 harg10 arg11 harg11 arg12 harg12 _ _ _ _ _ _ _ x8 x9 x10 x11 x12 ((first_iff _).mpr (by omega))
      (mt (later_iff _).mp (by omega)) (mt (last_iff _).mp (by omega)) _).trans (wp_mono _ _ _ fun _ => weaken ?_)
    rintro x8' x9' x10' x11' x12' ⟨⟨f8, rfl⟩, ⟨f11, hf, rfl⟩, ⟨f12, rfl⟩⟩
    refine ⟨hh f8, fun h => absurd h (by omega), fun h => absurd h (by omega), hst f11 hf, fun _ r l => ?_⟩
    rw [L12_at H, ← hu, ← sum_step (fun p => sq D p r l) u, hu, h0]
    simp
  · by_cases h9 : t.val = 9
    · refine (Val.runLast c (grid0.coords t) arg1 harg1 arg2 harg2 arg3 harg3 arg4 harg4 arg5 harg5 arg6 harg6 arg7 harg7 arg8 harg8 arg9 harg9 arg10 harg10 arg11 harg11 arg12 harg12 _ _ _ _ _ _ _ x8 x9 x10 x11 x12 (mt (first_iff _).mp (by omega))
        ((later_iff _).mpr (by omega)) ((last_iff _).mpr (by omega)) _).trans (wp_mono _ _ _ fun _ => weaken ?_)
      rintro x8' x9' x10' x11' x12' ⟨⟨f8, rfl⟩, ⟨f11, hf, e11⟩, ⟨f12, rfl⟩, f7, f9, f10, A11, A12, rfl, rfl, h7, h11, f, h12⟩
      have g7 : ∀ j, arg7.view.read (Elt Ideal) f7 (ix2 0 j) = D.g j := fun j => by rw [h7]; exact Hg j
      have g11 : ∀ p r j, arg11.view.read (Elt Ideal) A11 (ix3 p r j) = D.h r (col p j) := fun p r j => by
        rw [h11, e11]; exact hst f11 hf p (by omega) r j
      have g12 : ∀ r l, arg12.view.read (Elt Ideal) A12 (ix2 r l) = ∑ p : Fin 10, sq D p r l := fun r l => by
        rw [h12, hss h0]
        exact Finset.sum_congr rfl fun p _ => if_pos (by omega)
      refine ⟨hh f8, fun _ r j => ?_, fun _ r => ?_, fun q hq r j => ?_, fun _ => hss h0 f12⟩
      · exact Loop.loop9 D Variants.none c none (grid0.coords t) arg1 harg1 arg2 harg2 arg3 harg3 arg4 harg4 arg5 harg5 arg6 harg6 arg7 harg7 arg8 harg8 arg9 harg9 arg10 harg10 arg11 harg11 arg12 harg12 _ f7 A11 A12 g7 g11 g12 f9 _ le_rfl r j (Nat.lt_of_lt_of_eq r.isLt (by decide +kernel))
      · exact Loop.loop10 D Variants.none c none (grid0.coords t) arg1 harg1 arg2 harg2 arg3 harg3 arg4 harg4 arg5 harg5 arg6 harg6 arg7 harg7 arg8 harg8 arg9 harg9 arg10 harg10 arg11 harg11 arg12 harg12 _ f7 A11 A12 g7 g11 g12 f10 _ le_rfl r (Nat.lt_of_lt_of_eq r.isLt (by decide +kernel))
      · rw [e11]; exact hst f11 hf q hq r j
    · refine (Val.runMid c (grid0.coords t) arg1 harg1 arg2 harg2 arg3 harg3 arg4 harg4 arg5 harg5 arg6 harg6 arg7 harg7 arg8 harg8 arg9 harg9 arg10 harg10 arg11 harg11 arg12 harg12 _ _ _ _ _ _ _ x8 x9 x10 x11 x12 (mt (first_iff _).mp (by omega))
        ((later_iff _).mpr (by omega)) (mt (last_iff _).mp (by omega)) _).trans (wp_mono _ _ _ fun _ => weaken ?_)
      rintro x8' x9' x10' x11' x12' ⟨⟨f8, rfl⟩, ⟨f11, hf, rfl⟩, ⟨f12, rfl⟩⟩
      exact ⟨hh f8, fun h => absurd h h9, fun h => absurd h h9, hst f11 hf, fun _ => hss h0 f12⟩

end Cert.KernelIdeal.Run

end
-- ==== Proof.Finals.lean ====
/-
  The kernel's three results over the extended reals, as functions of what its buffers hold when it is launched.
-/
module

public import proofs.«01_k».proof.Proof.Blocks
public import proofs.«01_k».proof.Proof.PointAt

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

open Cert.KernelIdeal.Loop (col lane exists_col)

variable (m : (ℓ : Loc nD τ sig) → Buf (Elt Ideal) ℓ)

/-- The problem's data, as the launch finds them. -/
def data (c : Dev nD) : Spec.Data where
  x r k := V m c main_v0 (ix2 r k)
  xs r := V m c main_v1 (ix2 r 0)
  w k j := V m c main_arg2 (ix2 k j)
  ws j := V m c main_v2 (ix2 0 j)
  res r j := V m c main_v3 (ix2 r j)
  g j := V m c main_v4 (ix2 0 j)
  len q := m ((c : Thread nD τ).loc main_arg6) (ix1 q)

/-- Every point's blocks are blocks of the data. -/
theorem holds : Holds (data m 0) m := by
  intro c t
  obtain rfl : c = 0 := Subsingleton.elim _ _
  refine ⟨fun u hu => ⟨fun _ => rfl, fun r k => xBlk_at m 0 t r k, fun r => xsBlk_at m 0 t r, fun k j => wBlk_at m 0 t u hu k j,
    fun j => wsBlk_at m 0 t u hu j, fun r j => resBlk_at m 0 t u hu r j⟩, fun j => gBlk_at m 0 t j⟩

variable (D : Spec.Data)

/-- Where the first result's block has its elements in the array. -/
theorem h_emb (t : Fin grid0.N) (u : Fin 10) (hu : u.val = t.val) (r : Fin 1024) (j : Fin 512) :
    (((win0 (adm m 0) 6).blk t).view.emb (ix2 r j : S1024x512.Idx) : S1024x5120.Idx) = ix2 r (col u j) := by
  refine funext fun a => Fin.ext ?_
  refine (Pipeline.Window.rect_emb_val (win0 (adm m 0) 6) t (ix2 r j) a).trans ?_
  show cc0_transform_6 (grid0.coords t) a * _ + _ = _
  rw [show cc0_transform_6 (grid0.coords t) = ![0, t.val] from moves t]
  fin_cases a
  · exact Nat.zero_add _
  · show t.val * 512 + j.val = 512 * u.val + j.val
    omega

/-- A point's block of the first result is that block of the array. -/
theorem h_piece (X : S1024x512.Idx → EReal) (t : Fin grid0.N) (u : Fin 10) (hu : u.val = t.val) (hX : ∀ r j, X (ix2 r j) = D.h r (col u j))
    (y : S1024x512.Idx) : X y = (fun i : S1024x5120.Idx => D.h (i 0) (i 1)) (((win0 (adm m 0) 6).blk t).view.emb y) := by
  obtain ⟨r, j, rfl⟩ : ∃ (r : Fin 1024) (j : Fin 512), y = ix2 r j := ⟨y 0, y 1, by funext a; fin_cases a <;> rfl⟩
  rw [hX, h_emb m t u hu]
  rfl

/-- The first result's blocks cover its array. -/
theorem h_cover (i : S1024x5120.Idx) : ∃ t : Fin grid0.N, (win0 (adm m 0) 6).flush t = true ∧ i ∈ ((win0 (adm m 0) 6).blk t).view.set := by
  obtain ⟨u, j, hc⟩ := exists_col (i 1)
  obtain ⟨t, ht⟩ : ∃ t : Fin grid0.N, u.val = t.val := ⟨⟨u.val, u.isLt⟩, rfl⟩
  refine ⟨t, flush_h m _, ?_⟩
  have e : (((win0 (adm m 0) 6).blk t).view.emb (ix2 (i 0) j : S1024x512.Idx) : S1024x5120.Idx) = i := by
    refine (h_emb m t u ht (i 0) j).trans ?_
    rw [hc]
    funext a; fin_cases a <;> rfl
  exact e ▸ View.emb_mem_set _ _

/-- The first result's array. -/
theorem final_h (r) (h : RDat.FramePost (cfg0 (adm m 0)) (rdat m (leaves D)) (V m) r) (c : Dev nD) :
    (r.2.mem ((c.tc : Thread nD τ).loc main_v5_0) : S1024x5120.Idx → EReal) = fun i => D.h (i 0) (i 1) := by
  obtain ⟨after, hL, hA⟩ := h.exists_exact c
  refine (hA 6).trans ?_
  refine Pipeline.Dat.arrAt_eq_of_emb ((rdat m (leaves D) c).withAfter after) 6 (fun i : S1024x5120.Idx => D.h (i 0) (i 1)) (fun t hf y => ?_) (fun i => ?_)
  · obtain ⟨Y, -, hY⟩ := hL 6 t hf
    exact h_piece m D (after 6 t) t ⟨t.val, t.isLt⟩ rfl (hY ⟨t.val, t.isLt⟩ rfl) y
  · exact h_cover m i

/-- The last point. -/
abbrev last : Fin grid0.N := ⟨9, by decide⟩

/-- The codes' array. -/
theorem final_n (r) (h : RDat.FramePost (cfg0 (adm m 0)) (rdat m (leaves D)) (V m) r) (c : Dev nD) :
    (r.2.mem ((c.tc : Thread nD τ).loc main_v5_1) : S1024x5120.Idx → EReal) = fun i => D.codes (i 0) (i 1) := by
  have h7 := (h c).1 7
  have hw : (win0 (adm m 0) 7).WholeAt last :=
    ⟨(flush_n m last).mpr rfl, fun t ht => Fin.ext (by have := (flush_n m t).mp ht; have ht' : t.val < 10 := t.isLt; show t.val = 9; omega), fun a => by
      refine ⟨?_, by fin_cases a <;> rfl⟩
      show cc0_transform_7 (grid0.coords last) a = 0
      rw [still_7]; fin_cases a <;> rfl⟩
  obtain ⟨X, ⟨Y, -, hX⟩, hG⟩ := h7.emb_eq_of_wholeAt hw
  have hX' : ∀ r c, X (ix2 r c) = D.codes r c := hX rfl
  funext i
  refine (hG i).trans ((congrArg X (?_ : _ = ix2 (i 0) (i 1))).trans (hX' _ _))
  funext a; apply Fin.ext; fin_cases a <;> rfl

/-- The scales' array. -/
theorem final_ns (r) (h : RDat.FramePost (cfg0 (adm m 0)) (rdat m (leaves D)) (V m) r) (c : Dev nD) :
    (r.2.mem ((c.tc : Thread nD τ).loc main_v5_2) : S1024x1.Idx → EReal) = fun i => D.scales (i 0) := by
  have h8 := (h c).1 8
  have hw : (win0 (adm m 0) 8).WholeAt last :=
    ⟨(flush_ns m last).mpr rfl, fun t ht => Fin.ext (by have := (flush_ns m t).mp ht; have ht' : t.val < 10 := t.isLt; show t.val = 9; omega), fun a => by
      refine ⟨?_, by fin_cases a <;> rfl⟩
      show cc0_transform_8 (grid0.coords last) a = 0
      rw [still_8]; fin_cases a <;> rfl⟩
  obtain ⟨X, ⟨Y, -, hX⟩, hG⟩ := h8.emb_eq_of_wholeAt hw
  have hX' : ∀ r, X (ix2 r 0) = D.scales r := hX rfl
  funext i
  refine (hG i).trans ((congrArg X (?_ : _ = ix2 (i 0) 0)).trans (hX' _))
  funext a; apply Fin.ext; fin_cases a
  · rfl
  · show (i 1).val = 0
    have : (i 1).val < 1 := (i 1).isLt
    omega

end Cert.KernelIdeal.Run

end
-- ==== Proof.RefPay.lean ====
/-
  The values of the reference's stores, read at an index, are those of `Spec`.
-/
module

public import proofs.«01_k».proof.Proof.Gen.ReferenceIdeal.Skeleton
public import proofs.«01_k».proof.Proof.Spec
public import proofs.«01_k».proof.Proof.Rows

@[expose] public section

noncomputable section

namespace Cert.ReferenceIdeal.Pay

open Cert.ReferenceIdeal Cert.ReferenceIdeal.Gen Idealize.ShloMosaic Cert.Spec

/-- A word's remainder by 512, with the sign put right. -/
def rem512 (a : BitVec 32) : BitVec 32 :=
  Scalar.select (IntOp.andi (IntOp.xori (IntOp.cmpi .slt (IntOp.remsi .vector a (Scalar.select (Scalar.cmpi .eq 512#32 0#32) 1#32 512#32)) 0#32)
      (Scalar.cmpi .slt (Scalar.select (Scalar.cmpi .eq 512#32 0#32) 1#32 512#32) 0#32))
      (IntOp.cmpi .ne (IntOp.remsi .vector a (Scalar.select (Scalar.cmpi .eq 512#32 0#32) 1#32 512#32)) 0#32))
    (IntOp.addi (IntOp.remsi .vector a (Scalar.select (Scalar.cmpi .eq 512#32 0#32) 1#32 512#32)) (Scalar.select (Scalar.cmpi .eq 512#32 0#32) 1#32 512#32))
    (IntOp.remsi .vector a (Scalar.select (Scalar.cmpi .eq 512#32 0#32) 1#32 512#32))

theorem rem512_eq : ∀ r : Fin 1024, rem512 (BitVec.ofNat 32 r.val) = BitVec.ofNat 32 (r.val % 512)
    ∧ IntOp.cmpi .slt (BitVec.ofNat 32 r.val) 512#32 = BitVec.ofBool (decide (r.val < 512)) := by
  decide +kernel

/-- The position of a row in its batch element, against the batch element's row count. -/
theorem word_at (l0 l1 : BitVec 32) (r : Fin 1024) (j : Fin 5120) (len : Fin 2 → BitVec 32) (h0 : l0 = len 0) (h1 : l1 = len 1) :
    k0_pay4 (F := Ideal) l0 l1 (ix2 r j) = BitVec.ofBool ((BitVec.ofNat 32 (r.val % 512)).slt (len ⟨r.val / 512, by omega⟩)) := by
  have e : k0_pay4 (F := Ideal) l0 l1 (ix2 r j) = IntOp.cmpi .slt (rem512 (BitVec.ofNat 32 r.val))
      (Scalar.select (IntOp.cmpi .slt (BitVec.ofNat 32 r.val) 512#32) l0 l1) := by
    unfold rem512
    pointwise [k0_pay4]
  rw [e, (rem512_eq r).1, (rem512_eq r).2, Scalar.select_ofBool]
  have e2 : (if decide (r.val < 512) = true then l0 else l1) = len ⟨r.val / 512, by omega⟩ := by
    by_cases h : r.val < 512
    · rw [if_pos (decide_eq_true h), h0]
      exact congrArg len (Fin.ext (by show 0 = r.val / 512; omega))
    · rw [if_neg (by simpa using h), h1]
      exact congrArg len (Fin.ext (by show 1 = r.val / 512; omega))
  rw [e2]
  rfl

variable (D : Data)

theorem pay6_at (v0 : Vec Ideal S1024x4096 .fp8e4m3) (v2 : Vec Ideal S4096x5120 .fp8e4m3) (v4 : Vec Ideal S1024x1 .f32)
    (v8 : Vec Ideal S1x5120 .f32) (v37 : Vec Ideal S1024x5120 .bf16) (M : IVec S1024x5120 1)
    (hM : ∀ r j, M (ix2 r j) = BitVec.ofBool ((BitVec.ofNat 32 (r.val % 512)).slt (D.len ⟨r.val / 512, by omega⟩)))
    (h0 : ∀ r k, v0 (ix2 r k) = D.x r k) (h2 : ∀ k j, v2 (ix2 k j) = D.w k j) (h4 : ∀ r, v4 (ix2 r 0) = D.xs r)
    (h8 : ∀ j, v8 (ix2 0 j) = D.ws j) (h37 : ∀ r j, v37 (ix2 r j) = D.res r j) (r : Fin 1024) (j : Fin 5120) :
    k0_pay6 (k0_pay3 v0 v2 v4 v8) M (k0_pay5 v37) (ix2 r j) = D.h r j := by
  pointwise [k0_pay6, k0_pay3, k0_pay5]
  simp only [hM, h0, h2, h4, h8, h37]
  rw [Scalar.select_ofBool]
  rfl

theorem pay7_at (v11 : FVec Ideal S1024x5120 .f32) (v36 : IVec S1024x5120 1) (v39 : FVec Ideal S1024x5120 .f32) (v56 : Vec Ideal S1x5120 .f32)
    (hH : ∀ r j, k0_pay6 v11 v36 v39 (ix2 r j) = D.h r j) (h56 : ∀ j, v56 (ix2 0 j) = D.g j) (r : Fin 1024) (j : Fin 5120) :
    k0_pay7 v11 v36 v39 v56 (ix2 r j) = D.n r j := by
  unfold k0_pay7
  generalize k0_pay6 v11 v36 v39 = H at *
  pointwise
  simp only [hH, h56]
  rfl

/-- The rows' maxima over 448, from the maxima. -/
def topOf (A : FVec Ideal S1024 .f32) : FVec Ideal S1024x1 .f32 :=
  mulf (shapeCast S1024x1 A shapeCasts_S1024_S1024x1) (broadcast S1024x1 (Scalar.ofBits .f32 0x3B124925#32))

/-- The exponents below 121, in every row. -/
def cands : FVec Ideal S1024x246 .f32 :=
  sitofp .f32 (subi (iota .tc S1024x246 32 [1] iota_S1024x246_d1_w32) (broadcast S1024x246 125#32))

/-- The exponents whose power is above the row's value; 128 for the others. -/
def above (x : FVec Ideal S1024x1 .f32) (v68 : FVec Ideal S1024x246 .f32) : FVec Ideal S1024x246 .f32 :=
  select (cmpf .olt (broadcastTo S1024x246 x broadcasts_S1024x1_S1024x246) (exp2 v68)) v68 (broadcast S1024x246 (Scalar.ofBits .f32 0x43000000#32))

/-- The exponent, from the least one above. -/
def pickOf (x : FVec Ideal S1024x1 .f32) (A : FVec Ideal S1024 .f32) : FVec Ideal S1024x1 .f32 :=
  select (andi (cmpf .oge x (broadcast S1024x1 (Scalar.ofBits .f32 0x00800000#32))) (cmpf .olt x (broadcast S1024x1 (Scalar.ofBits .f32 0x7B800000#32))))
    (shapeCast S1024x1 A shapeCasts_S1024_S1024x1) (broadcast S1024x1 (Scalar.ofBits .f32 0x00000000#32))

/-- The rows' greatest entries. -/
def rowMax (N : FVec Ideal S1024x5120 .f32) : FVec Ideal S1024 .f32 :=
  multiReduction .maximumf [1] S1024 N 0xFF800000#32 reduces_S1024x5120_S1024 (.inl rfl) rfl

/-- The rows' least entries. -/
def rowMin (N : FVec Ideal S1024x246 .f32) : FVec Ideal S1024 .f32 :=
  multiReduction .minimumf [1] S1024 N 0x7F800000#32 reduces_S1024x246_S1024 (.inl rfl) rfl

theorem pay8_eq (v11 : FVec Ideal S1024x5120 .f32) (v36 : IVec S1024x5120 1) (v39 : FVec Ideal S1024x5120 .f32) (v56 : Vec Ideal S1x5120 .f32) :
    k0_pay8 v11 v36 v39 v56 = pickOf (topOf (rowMax (absf (k0_pay7 v11 v36 v39 v56)))) (rowMin (above (topOf (rowMax (absf (k0_pay7 v11 v36 v39 v56)))) cands)) := rfl

theorem rowMax_at (N : FVec Ideal S1024x5120 .f32) (r : Fin 1024) :
    rowMax N (ix1 r) = Finset.fold max (Ideal.ofBits .f32 0xFF800000#32) (fun c => N (ix2 r c)) Finset.univ :=
  max_row reduces_S1024x5120_S1024 N 0xFF800000#32 (.inl rfl) rfl r

theorem rowMin_at (N : FVec Ideal S1024x246 .f32) (r : Fin 1024) :
    rowMin N (ix1 r) = Finset.fold min (Ideal.ofBits .f32 0x7F800000#32) (fun c => N (ix2 r c)) Finset.univ :=
  min_row reduces_S1024x246_S1024 N 0x7F800000#32 (.inl rfl) rfl r

theorem topOf_at (A : FVec Ideal S1024 .f32) (r : Fin 1024) : topOf A (ix2 r 0) = A (ix1 r) * Ideal.ofBits .f32 0x3B124925#32 := by
  pointwise [topOf]

theorem top_at (N : FVec Ideal S1024x5120 .f32) (r : Fin 1024) : topOf (rowMax (absf N)) (ix2 r 0) = over fun j => N (ix2 r j) := by
  rw [topOf_at, rowMax_at]
  unfold over
  exact congrArg (· * Ideal.ofBits .f32 0x3B124925#32) (Finset.fold_congr fun c _ => rfl)

theorem cands_at (r : Fin 1024) (k : Fin 246) : cands (ix2 r k) = cand k := by
  unfold cand
  pointwise [cands]

theorem above_at (x : FVec Ideal S1024x1 .f32) (v68 : FVec Ideal S1024x246 .f32) (r : Fin 1024) (k : Fin 246) :
    above x v68 (ix2 r k) = if x (ix2 r 0) < Ideal.exp2 (v68 (ix2 r k)) then v68 (ix2 r k) else Ideal.ofBits .f32 0x43000000#32 := by
  pointwise [above]
  rfl

theorem pickOf_in (x : FVec Ideal S1024x1 .f32) (A : FVec Ideal S1024 .f32) (r : Fin 1024) :
    pickOf x A (ix2 r 0) = Scalar.select (IntOp.andi (BitVec.ofBool (decide (Ideal.ofBits .f32 0x00800000#32 ≤ x (ix2 r 0))))
      (BitVec.ofBool (decide (x (ix2 r 0) < Ideal.ofBits .f32 0x7B800000#32)))) (A (ix1 r)) 0 := by
  pointwise [pickOf]

/-- What lies within the bounds is what is neither below the lower one nor from the upper one on. -/
theorem pick_swap (x a b u v : EReal) :
    Scalar.select (IntOp.andi (BitVec.ofBool (decide (a ≤ x))) (BitVec.ofBool (decide (x < b)))) u v
      = Scalar.select (IntOp.ori (BitVec.ofBool (decide (x < a))) (BitVec.ofBool (decide (b ≤ x)))) v u := by
  rw [decide_eq_decide.2 (not_lt (a := x) (b := a)).symm, decide_eq_decide.2 (not_le (a := b) (b := x)).symm, decide_not, decide_not]
  cases decide (x < a) <;> cases decide (b ≤ x) <;> rfl

theorem pickOf_at (x : FVec Ideal S1024x1 .f32) (A : FVec Ideal S1024 .f32) (r : Fin 1024) :
    pickOf x A (ix2 r 0) = Scalar.select (IntOp.ori (BitVec.ofBool (decide (x (ix2 r 0) < Ideal.ofBits .f32 0x00800000#32)))
      (BitVec.ofBool (decide (Ideal.ofBits .f32 0x7B800000#32 ≤ x (ix2 r 0))))) 0 (A (ix1 r)) :=
  (pickOf_in x A r).trans (pick_swap _ _ _ _ _)

theorem pick_at (x : FVec Ideal S1024x1 .f32) (r : Fin 1024) : pickOf x (rowMin (above x cands)) (ix2 r 0) = expo (x (ix2 r 0)) := by
  rw [pickOf_at, rowMin_at]
  unfold expo
  refine congrArg (Scalar.select _ _) (Finset.fold_congr fun c _ => ?_)
  rw [above_at, cands_at]

theorem pay8_at (v11 : FVec Ideal S1024x5120 .f32) (v36 : IVec S1024x5120 1) (v39 : FVec Ideal S1024x5120 .f32) (v56 : Vec Ideal S1x5120 .f32)
    (hN : ∀ r j, k0_pay7 v11 v36 v39 v56 (ix2 r j) = D.n r j) (r : Fin 1024) :
    k0_pay8 v11 v36 v39 v56 (ix2 r 0) = expo (over (D.n r)) := by
  rw [pay8_eq, pick_at, top_at]
  simp only [hN]

theorem pay2_at (N : FVec Ideal S1024x5120 .f32) (E : FVec Ideal S1024x1 .f32) (hN : ∀ r j, N (ix2 r j) = D.n r j)
    (hE : ∀ r, E (ix2 r 0) = expo (over (D.n r))) (r : Fin 1024) (j : Fin 5120) : k0_pay2 N E (ix2 r j) = D.codes r j := by
  pointwise [k0_pay2]
  simp only [hN, hE]
  rfl

theorem pay1_at (E : FVec Ideal S1024x1 .f32) (hE : ∀ r, E (ix2 r 0) = expo (over (D.n r))) (r : Fin 1024) : k0_pay1 E (ix2 r 0) = D.scales r := by
  pointwise [k0_pay1]
  simp only [hE]
  rfl

end Cert.ReferenceIdeal.Pay

end
-- ==== Proof.RefRun.lean ====
/-
  What the reference's one run leaves in its three results, over the extended reals, at an index.
-/
module

public import proofs.«01_k».proof.Proof.RefPay
public import proofs.«01_k».proof.Proof.Gen.ReferenceIdeal.Value
public import Idealize.ShloMosaic.Lib.Pipeline.ValueKit

@[expose] public section

noncomputable section

namespace Cert.ReferenceIdeal.Pay

open Cert.ReferenceIdeal Cert.ReferenceIdeal.Gen Idealize.ShloMosaic Idealize.ShloMosaic.TcCoe Idealize.SL.Sem Idealize.ShloMosaic.Tactic

variable (D : Spec.Data)

/-- The body's operands are the data. -/
structure Inputs (x0 : Vec Ideal S2 .i32) (x1 : Vec Ideal S1024x4096 .fp8e4m3) (x2 : Vec Ideal S1024x1 .f32) (x3 : Vec Ideal S4096x5120 .fp8e4m3) (x4 : Vec Ideal S1x5120 .f32) (x5 : Vec Ideal S1024x5120 .bf16) (x6 : Vec Ideal S1x5120 .f32) : Prop where
  len : ∀ q, x0 (ix1 q) = D.len q
  x : ∀ r k, x1 (ix2 r k) = D.x r k
  xs : ∀ r, x2 (ix2 r 0) = D.xs r
  w : ∀ k j, x3 (ix2 k j) = D.w k j
  ws : ∀ j, x4 (ix2 0 j) = D.ws j
  res : ∀ r j, x5 (ix2 r j) = D.res r j
  g : ∀ j, x6 (ix2 0 j) = D.g j

theorem hz : (![0, 0] : Fin 2 → ℕ) = fun _ => 0 := by funext a; fin_cases a <;> rfl

variable {D}

/-- A word of the table of lengths. -/
theorem len_at (arg0 : Memref sig .tc .smem S2 .i32) (harg0 : arg0.IsWhole) (x0 : Vec Ideal S2 .i32) (q : Fin 2)
    (inb : ∀ a : Fin 1, (![q.val] : Fin 1 → ℕ) a + S1.size a ≤ S2.size a) (z : S1.Idx) :
    arg0.view.readAt (Elt Ideal) (Rect.unit (s := S2) ![q.val] S1.size inb).toLoadRect (harg0.unread x0) z = x0 (ix1 q) := by
  refine (View.ld_unit_apply_of (arg0.view.read (Elt Ideal) (harg0.unread x0)) _ _ _ _ (ix1 q) fun b => ?_).trans (by rw [harg0.read_unread])
  have hzb : (z 0).val < 1 := (z 0).isLt
  fin_cases b
  show q.val = q.val + (z 0).val
  omega

/-- The first result. -/
theorem h_at (c : Dev nD) (arg0 : Memref sig .tc .smem S2 .i32) (harg0 : arg0.IsWhole) (arg1 : Memref sig .tc .vmem S1024x4096 .fp8e4m3) (harg1 : arg1.IsWhole) (arg2 : Memref sig .tc .vmem S1024x1 .f32) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1x5120 .f32) (harg6 : arg6.IsWhole) (arg7 : Memref sig .tc .vmem S1024x5120 .bf16) (harg7 : arg7.IsWhole) (arg8 : Memref sig .tc .vmem S1024x5120 .fp8e4m3) (harg8 : arg8.IsWhole) (arg9 : Memref sig .tc .vmem S1024x1 .f32) (harg9 : arg9.IsWhole) (x0 : Vec Ideal S2 .i32) (x1 : Vec Ideal S1024x4096 .fp8e4m3) (x2 : Vec Ideal S1024x1 .f32) (x3 : Vec Ideal S4096x5120 .fp8e4m3) (x4 : Vec Ideal S1x5120 .f32) (x5 : Vec Ideal S1024x5120 .bf16) (x6 : Vec Ideal S1x5120 .f32) (H : Inputs D x0 x1 x2 x3 x4 x5 x6) (r : Fin 1024) (j : Fin 5120) :
    out0_A_7 c arg0 harg0 arg1 harg1 arg2 harg2 arg3 harg3 arg4 harg4 arg5 harg5 arg6 harg6 arg7 harg7 arg8 harg8 arg9 harg9 x0 x1 x2 x3 x4 x5 x6 (ix2 r j) = D.h r j := by
  unfold out0_A_7
  rw [View.read_writes_eq_canon _ _ _ (cover0_A_7 c arg0 harg0 arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_cons_unit_zero hz]
  refine pay6_at D _ _ _ _ _ _ (fun r j => word_at _ _ r j D.len ((len_at arg0 harg0 x0 0 _ _).trans (H.len 0)) ((len_at arg0 harg0 x0 1 _ _).trans (H.len 1))) ?_ ?_ ?_ ?_ ?_ r j
  exacts [(fun r k => (View.ld_unit_apply_of (arg1.view.read (Elt Ideal) (harg1.unread x1)) _ _ _ _ (ix2 r k) fun b => by fin_cases b <;> exact (Nat.zero_add _).symm).trans (by rw [harg1.read_unread]; exact H.x r k)),
    (fun r k => (View.ld_unit_apply_of (arg3.view.read (Elt Ideal) (harg3.unread x3)) _ _ _ _ (ix2 r k) fun b => by fin_cases b <;> exact (Nat.zero_add _).symm).trans (by rw [harg3.read_unread]; exact H.w r k)),
    (fun r => (View.ld_unit_apply_of (arg2.view.read (Elt Ideal) (harg2.unread x2)) _ _ _ _ (ix2 r 0) fun b => by fin_cases b <;> exact (Nat.zero_add _).symm).trans (by rw [harg2.read_unread]; exact H.xs r)),
    (fun j => (View.ld_unit_apply_of (arg4.view.read (Elt Ideal) (harg4.unread x4)) _ _ _ _ (ix2 0 j) fun b => by fin_cases b <;> exact (Nat.zero_add _).symm).trans (by rw [harg4.read_unread]; exact H.ws j)),
    (fun r k => (View.ld_unit_apply_of (arg5.view.read (Elt Ideal) (harg5.unread x5)) _ _ _ _ (ix2 r k) fun b => by fin_cases b <;> exact (Nat.zero_add _).symm).trans (by rw [harg5.read_unread]; exact H.res r k))]

/-- The codes. -/
theorem n_at (c : Dev nD) (arg0 : Memref sig .tc .smem S2 .i32) (harg0 : arg0.IsWhole) (arg1 : Memref sig .tc .vmem S1024x4096 .fp8e4m3) (harg1 : arg1.IsWhole) (arg2 : Memref sig .tc .vmem S1024x1 .f32) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1x5120 .f32) (harg6 : arg6.IsWhole) (arg7 : Memref sig .tc .vmem S1024x5120 .bf16) (harg7 : arg7.IsWhole) (arg8 : Memref sig .tc .vmem S1024x5120 .fp8e4m3) (harg8 : arg8.IsWhole) (arg9 : Memref sig .tc .vmem S1024x1 .f32) (harg9 : arg9.IsWhole) (x0 : Vec Ideal S2 .i32) (x1 : Vec Ideal S1024x4096 .fp8e4m3) (x2 : Vec Ideal S1024x1 .f32) (x3 : Vec Ideal S4096x5120 .fp8e4m3) (x4 : Vec Ideal S1x5120 .f32) (x5 : Vec Ideal S1024x5120 .bf16) (x6 : Vec Ideal S1x5120 .f32) (H : Inputs D x0 x1 x2 x3 x4 x5 x6) (r : Fin 1024) (j : Fin 5120) :
    out0_A_8 c arg0 harg0 arg1 harg1 arg2 harg2 arg3 harg3 arg4 harg4 arg5 harg5 arg6 harg6 arg7 harg7 arg8 harg8 arg9 harg9 x0 x1 x2 x3 x4 x5 x6 (ix2 r j) = D.codes r j := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_cons_unit_zero hz]
  have all : ∀ (N : FVec Ideal S1024x5120 .f32) (E : FVec Ideal S1024x1 .f32), (∀ r j, N (ix2 r j) = D.n r j) → ((∀ r j, N (ix2 r j) = D.n r j) → ∀ r, E (ix2 r 0) = Spec.expo (Spec.over (D.n r))) →
      k0_pay2 N E (ix2 r j) = D.codes r j := fun N E hN hE => pay2_at D N E hN (hE hN) r j
  refine all _ _ ?_ (fun hN r => pay8_at D _ _ _ _ hN r)
  refine fun r j => pay7_at D _ _ _ _ ?_ (fun j => (View.ld_unit_apply_of (arg6.view.read (Elt Ideal) (harg6.unread x6)) _ _ _ _ (ix2 0 j) fun b => by fin_cases b <;> exact (Nat.zero_add _).symm).trans (by rw [harg6.read_unread]; exact H.g j)) r j
  refine fun r j => pay6_at D _ _ _ _ _ _ (fun r j => word_at _ _ r j D.len ((len_at arg0 harg0 x0 0 _ _).trans (H.len 0)) ((len_at arg0 harg0 x0 1 _ _).trans (H.len 1))) ?_ ?_ ?_ ?_ ?_ r j
  exacts [(fun r k => (View.ld_unit_apply_of (arg1.view.read (Elt Ideal) (harg1.unread x1)) _ _ _ _ (ix2 r k) fun b => by fin_cases b <;> exact (Nat.zero_add _).symm).trans (by rw [harg1.read_unread]; exact H.x r k)),
    (fun r k => (View.ld_unit_apply_of (arg3.view.read (Elt Ideal) (harg3.unread x3)) _ _ _ _ (ix2 r k) fun b => by fin_cases b <;> exact (Nat.zero_add _).symm).trans (by rw [harg3.read_unread]; exact H.w r k)),
    (fun r => (View.ld_unit_apply_of (arg2.view.read (Elt Ideal) (harg2.unread x2)) _ _ _ _ (ix2 r 0) fun b => by fin_cases b <;> exact (Nat.zero_add _).symm).trans (by rw [harg2.read_unread]; exact H.xs r)),
    (fun j => (View.ld_unit_apply_of (arg4.view.read (Elt Ideal) (harg4.unread x4)) _ _ _ _ (ix2 0 j) fun b => by fin_cases b <;> exact (Nat.zero_add _).symm).trans (by rw [harg4.read_unread]; exact H.ws j)),
    (fun r k => (View.ld_unit_apply_of (arg5.view.read (Elt Ideal) (harg5.unread x5)) _ _ _ _ (ix2 r k) fun b => by fin_cases b <;> exact (Nat.zero_add _).symm).trans (by rw [harg5.read_unread]; exact H.res r k))]

/-- The scales. -/
theorem ns_at (c : Dev nD) (arg0 : Memref sig .tc .smem S2 .i32) (harg0 : arg0.IsWhole) (arg1 : Memref sig .tc .vmem S1024x4096 .fp8e4m3) (harg1 : arg1.IsWhole) (arg2 : Memref sig .tc .vmem S1024x1 .f32) (harg2 : arg2.IsWhole) (arg3 : Memref sig .tc .vmem S4096x5120 .fp8e4m3) (harg3 : arg3.IsWhole) (arg4 : Memref sig .tc .vmem S1x5120 .f32) (harg4 : arg4.IsWhole) (arg5 : Memref sig .tc .vmem S1024x5120 .bf16) (harg5 : arg5.IsWhole) (arg6 : Memref sig .tc .vmem S1x5120 .f32) (harg6 : arg6.IsWhole) (arg7 : Memref sig .tc .vmem S1024x5120 .bf16) (harg7 : arg7.IsWhole) (arg8 : Memref sig .tc .vmem S1024x5120 .fp8e4m3) (harg8 : arg8.IsWhole) (arg9 : Memref sig .tc .vmem S1024x1 .f32) (harg9 : arg9.IsWhole) (x0 : Vec Ideal S2 .i32) (x1 : Vec Ideal S1024x4096 .fp8e4m3) (x2 : Vec Ideal S1024x1 .f32) (x3 : Vec Ideal S4096x5120 .fp8e4m3) (x4 : Vec Ideal S1x5120 .f32) (x5 : Vec Ideal S1024x5120 .bf16) (x6 : Vec Ideal S1x5120 .f32) (H : Inputs D x0 x1 x2 x3 x4 x5 x6) (r : Fin 1024) :
    out0_A_9 c arg0 harg0 arg1 harg1 arg2 harg2 arg3 harg3 arg4 harg4 arg5 harg5 arg6 harg6 arg7 harg7 arg8 harg8 arg9 harg9 x0 x1 x2 x3 x4 x5 x6 (ix2 r 0) = D.scales r := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_cons_unit_zero hz]
  refine pay1_at D _ (fun r => pay8_at D _ _ _ _ ?_ r) r
  refine fun r j => pay7_at D _ _ _ _ ?_ (fun j => (View.ld_unit_apply_of (arg6.view.read (Elt Ideal) (harg6.unread x6)) _ _ _ _ (ix2 0 j) fun b => by fin_cases b <;> exact (Nat.zero_add _).symm).trans (by rw [harg6.read_unread]; exact H.g j)) r j
  refine fun r j => pay6_at D _ _ _ _ _ _ (fun r j => word_at _ _ r j D.len ((len_at arg0 harg0 x0 0 _ _).trans (H.len 0)) ((len_at arg0 harg0 x0 1 _ _).trans (H.len 1))) ?_ ?_ ?_ ?_ ?_ r j
  exacts [(fun r k => (View.ld_unit_apply_of (arg1.view.read (Elt Ideal) (harg1.unread x1)) _ _ _ _ (ix2 r k) fun b => by fin_cases b <;> exact (Nat.zero_add _).symm).trans (by rw [harg1.read_unread]; exact H.x r k)),
    (fun r k => (View.ld_unit_apply_of (arg3.view.read (Elt Ideal) (harg3.unread x3)) _ _ _ _ (ix2 r k) fun b => by fin_cases b <;> exact (Nat.zero_add _).symm).trans (by rw [harg3.read_unread]; exact H.w r k)),
    (fun r => (View.ld_unit_apply_of (arg2.view.read (Elt Ideal) (harg2.unread x2)) _ _ _ _ (ix2 r 0) fun b => by fin_cases b <;> exact (Nat.zero_add _).symm).trans (by rw [harg2.read_unread]; exact H.xs r)),
    (fun j => (View.ld_unit_apply_of (arg4.view.read (Elt Ideal) (harg4.unread x4)) _ _ _ _ (ix2 0 j) fun b => by fin_cases b <;> exact (Nat.zero_add _).symm).trans (by rw [harg4.read_unread]; exact H.ws j)),
    (fun r k => (View.ld_unit_apply_of (arg5.view.read (Elt Ideal) (harg5.unread x5)) _ _ _ _ (ix2 r k) fun b => by fin_cases b <;> exact (Nat.zero_add _).symm).trans (by rw [harg5.read_unread]; exact H.res r k))]

end Cert.ReferenceIdeal.Pay

end
-- ==== Proof.RefFinals.lean ====
/-
  The reference's three results over the extended reals, as functions of what its buffers hold when it is launched.
-/
module

public import proofs.«01_k».proof.Proof.RefRun

@[expose] public section

noncomputable section

namespace Cert.ReferenceIdeal.Pay

open Cert.ReferenceIdeal Cert.ReferenceIdeal.Gen Idealize.ShloMosaic Idealize.ShloMosaic.TcCoe Idealize.SL.Sem Idealize.ShloMosaic.Tactic

variable (m : (ℓ : Loc nD τ sig) → Buf (Elt Ideal) ℓ)

/-- The problem's data, as the launch finds them. -/
def data (c : Dev nD) : Spec.Data where
  x r k := V m c main_v0 (ix2 r k)
  xs r := V m c main_v1 (ix2 r 0)
  w k j := V m c main_arg2 (ix2 k j)
  ws j := V m c main_v2 (ix2 0 j)
  res r j := V m c main_v3 (ix2 r j)
  g j := V m c main_v4 (ix2 0 j)
  len q := V m c main_arg6 (ix1 q)

/-- The grid's one point. -/
abbrev t0 : Fin cfg0.N := ⟨0, by decide⟩

/-- Every window is its whole array. -/
theorem inputs (c : Dev nD) : Inputs (data m c) (iblk m c 0 t0) (iblk m c 1 t0) (iblk m c 2 t0) (iblk m c 3 t0) (iblk m c 4 t0) (iblk m c 5 t0) (iblk m c 6 t0) where
  len q := congrArg (V m c main_arg6) (funext fun a => Fin.ext ((Pipeline.Window.rect_emb_val win0_0 t0 (ix1 q) a).trans (by fin_cases a; exact Nat.zero_add _)))
  x r k := congrArg (V m c main_v0) (funext fun a => Fin.ext ((Pipeline.Window.rect_emb_val win0_1 t0 (ix2 r k) a).trans (by fin_cases a <;> exact Nat.zero_add _)))
  xs r := congrArg (V m c main_v1) (funext fun a => Fin.ext ((Pipeline.Window.rect_emb_val win0_2 t0 (ix2 r 0) a).trans (by fin_cases a <;> exact Nat.zero_add _)))
  w k j := congrArg (V m c main_arg2) (funext fun a => Fin.ext ((Pipeline.Window.rect_emb_val win0_3 t0 (ix2 k j) a).trans (by fin_cases a <;> exact Nat.zero_add _)))
  ws j := congrArg (V m c main_v2) (funext fun a => Fin.ext ((Pipeline.Window.rect_emb_val win0_4 t0 (ix2 0 j) a).trans (by fin_cases a <;> exact Nat.zero_add _)))
  res r j := congrArg (V m c main_v3) (funext fun a => Fin.ext ((Pipeline.Window.rect_emb_val win0_5 t0 (ix2 r j) a).trans (by fin_cases a <;> exact Nat.zero_add _)))
  g j := congrArg (V m c main_v4) (funext fun a => Fin.ext ((Pipeline.Window.rect_emb_val win0_6 t0 (ix2 0 j) a).trans (by fin_cases a <;> exact Nat.zero_add _)))

/-- A function of two-axis indices, by its values. -/
theorem wide (X : S1024x5120.Idx → EReal) (G : Fin 1024 → Fin 5120 → EReal) (h : ∀ r j, X (ix2 r j) = G r j) (i : S1024x5120.Idx) : X i = G (i 0) (i 1) := by
  refine (congrArg X ?_).trans (h (i 0) (i 1))
  funext a; fin_cases a <;> rfl

/-- A function of indices with a unit axis, by its values. -/
theorem narrow (X : S1024x1.Idx → EReal) (G : Fin 1024 → EReal) (h : ∀ r, X (ix2 r 0) = G r) (i : S1024x1.Idx) : X i = G (i 0) := by
  refine (congrArg X ?_).trans (h (i 0))
  funext a; fin_cases a
  · rfl
  · exact Fin.ext (by have : (i 1).val < 1 := (i 1).isLt; show (i 1).val = 0; omega)

/-- What the one point leaves in window 7. -/
theorem outs_h (c : Dev nD) (r : Fin 1024) (j : Fin 5120) : (outsAt0 m c t0).1 (ix2 r j) = (data m c).h r j := by
  simp only [outsAt0]
  exact h_at c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (iblk m c 0 t0) (iblk m c 1 t0) (iblk m c 2 t0) (iblk m c 3 t0) (iblk m c 4 t0) (iblk m c 5 t0) (iblk m c 6 t0) (inputs m c) r j

/-- Window 7 is its whole array, written back once. -/
theorem whole_7 : win0_7.WholeAt t0 :=
  ⟨flush0_7 t0, fun t _ => Fin.ext (by have h : t.val < 1 := t.isLt; show t.val = 0; omega), fun a => ⟨rfl, rfl⟩⟩

/-- The first result's array. -/
theorem final_h (c : Dev nD) : ((dats m 0 c).arrAt 7 cfg0.N : S1024x5120.Idx → EReal) = fun i => (data m c).h (i 0) (i 1) := by
  funext i
  refine (Pipeline.Dat.arrAt_emb_eq_after_last (dats m 0 c) 7 t0 whole_7 i).trans ?_
  rw [after0_7]
  exact wide (outsAt0 m c t0).1 (data m c).h (outs_h m c) i

/-- What the one point leaves in window 8. -/
theorem outs_n (c : Dev nD) (r : Fin 1024) (j : Fin 5120) : (outsAt0 m c t0).2.1 (ix2 r j) = (data m c).codes r j := by
  simp only [outsAt0]
  exact n_at c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (iblk m c 0 t0) (iblk m c 1 t0) (iblk m c 2 t0) (iblk m c 3 t0) (iblk m c 4 t0) (iblk m c 5 t0) (iblk m c 6 t0) (inputs m c) r j

/-- Window 8 is its whole array, written back once. -/
theorem whole_8 : win0_8.WholeAt t0 :=
  ⟨flush0_8 t0, fun t _ => Fin.ext (by have h : t.val < 1 := t.isLt; show t.val = 0; omega), fun a => ⟨rfl, rfl⟩⟩

/-- The codes' array. -/
theorem final_n (c : Dev nD) : ((dats m 0 c).arrAt 8 cfg0.N : S1024x5120.Idx → EReal) = fun i => (data m c).codes (i 0) (i 1) := by
  funext i
  refine (Pipeline.Dat.arrAt_emb_eq_after_last (dats m 0 c) 8 t0 whole_8 i).trans ?_
  rw [after0_8]
  exact wide (outsAt0 m c t0).2.1 (data m c).codes (outs_n m c) i

/-- What the one point leaves in window 9. -/
theorem outs_ns (c : Dev nD) (r : Fin 1024) : (outsAt0 m c t0).2.2 (ix2 r 0) = (data m c).scales r := by
  simp only [outsAt0]
  exact ns_at c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (iblk m c 0 t0) (iblk m c 1 t0) (iblk m c 2 t0) (iblk m c 3 t0) (iblk m c 4 t0) (iblk m c 5 t0) (iblk m c 6 t0) (inputs m c) r

/-- Window 9 is its whole array, written back once. -/
theorem whole_9 : win0_9.WholeAt t0 :=
  ⟨flush0_9 t0, fun t _ => Fin.ext (by have h : t.val < 1 := t.isLt; show t.val = 0; omega), fun a => ⟨rfl, rfl⟩⟩

/-- The scales' array. -/
theorem final_ns (c : Dev nD) : ((dats m 0 c).arrAt 9 cfg0.N : S1024x1.Idx → EReal) = fun i => (data m c).scales (i 0) := by
  funext i
  refine (Pipeline.Dat.arrAt_emb_eq_after_last (dats m 0 c) 9 t0 whole_9 i).trans ?_
  rw [after0_9]
  exact narrow (outsAt0 m c t0).2.2 (data m c).scales (outs_ns m c) i

end Cert.ReferenceIdeal.Pay

end
-- ==== Proof.Algebraic.lean ====
/-
  The two programs' results are equal over the extended reals: both are the same functions of the problem's data, and the
  data are the same where the arguments are.
-/
module

public import proofs.«01_k».proof.Defs
public import proofs.«01_k».proof.Proof.Finals
public import proofs.«01_k».proof.Proof.RefFinals

@[expose] public section

noncomputable section

namespace Cert.Proof

open Idealize.ShloMosaic Idealize.SL.Sem Idealize.ShloMosaic.TcCoe Idealize.ShloMosaic.Tactic

/-- Equal arguments make equal data. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Pay.data m' c = Cert.KernelIdeal.Run.data m c := by
  obtain ⟨h0, h1, h2, h3, h4, h5, h6⟩ := h
  have e0 : (Cert.ReferenceIdeal.Gen.V m' c Cert.ReferenceIdeal.main_v0 : Cert.KernelIdeal.S1024x4096.Idx → EReal) = Cert.KernelIdeal.Run.V m c Cert.KernelIdeal.main_v0 := by
    entry_read
    rw [h0]
    rfl
  have e1 : (Cert.ReferenceIdeal.Gen.V m' c Cert.ReferenceIdeal.main_v1 : Cert.KernelIdeal.S1024x1.Idx → EReal) = Cert.KernelIdeal.Run.V m c Cert.KernelIdeal.main_v1 := by
    entry_read
    rw [h1]
    rfl
  have e2 : (Cert.ReferenceIdeal.Gen.V m' c Cert.ReferenceIdeal.main_v2 : Cert.KernelIdeal.S1x5120.Idx → EReal) = Cert.KernelIdeal.Run.V m c Cert.KernelIdeal.main_v2 := by
    entry_read
    rw [h3]
    rfl
  have e3 : (Cert.ReferenceIdeal.Gen.V m' c Cert.ReferenceIdeal.main_v3 : Cert.KernelIdeal.S1024x5120.Idx → EReal) = Cert.KernelIdeal.Run.V m c Cert.KernelIdeal.main_v3 := by
    entry_read
    rw [h4]
    rfl
  have e4 : (Cert.ReferenceIdeal.Gen.V m' c Cert.ReferenceIdeal.main_v4 : Cert.KernelIdeal.S1x5120.Idx → EReal) = Cert.KernelIdeal.Run.V m c Cert.KernelIdeal.main_v4 := by
    entry_read
    rw [h5]
    rfl
  have e5 : (Cert.ReferenceIdeal.Gen.V m' c Cert.ReferenceIdeal.main_arg2 : Cert.KernelIdeal.S4096x5120.Idx → EReal) = Cert.KernelIdeal.Run.V m c Cert.KernelIdeal.main_arg2 :=
    (Cert.ReferenceIdeal.Gen.V_main_arg2 m' c).trans (h2.trans (Cert.KernelIdeal.Run.V_main_arg2 m c).symm)
  have e6 : (Cert.ReferenceIdeal.Gen.V m' c Cert.ReferenceIdeal.main_arg6 : Cert.KernelIdeal.S2.Idx → BitVec 32) = m ((c.tc : Thread Cert.KernelIdeal.nD Cert.KernelIdeal.τ).loc Cert.KernelIdeal.main_arg6) :=
    (Cert.ReferenceIdeal.Gen.V_main_arg6 m' c).trans h6
  unfold Cert.ReferenceIdeal.Pay.data Cert.KernelIdeal.Run.data
  congr 1
  · exact funext fun r => funext fun k => congrFun e0 (ix2 r k)
  · exact funext fun r => congrFun e1 (ix2 r 0)
  · exact funext fun k => funext fun j => congrFun e5 (ix2 k j)
  · exact funext fun j => congrFun e2 (ix2 0 j)
  · exact funext fun r => funext fun j => congrFun e3 (ix2 r j)
  · exact funext fun j => congrFun e4 (ix2 0 j)
  · exact funext fun q => congrFun e6 (ix1 q)

/-- The kernel and the reference leave equal results over the extended reals. -/
theorem algebraic : Cert.algebraic_KernelIdeal_ReferenceIdeal := by
  intro m g m' g' _ h
  have e := data_eq m m' 0 (h 0)
  refine ⟨fun _ => fun i => (Cert.KernelIdeal.Run.data m 0).h (i 0) (i 1), fun _ => fun i => (Cert.KernelIdeal.Run.data m 0).codes (i 0) (i 1),
    fun _ => fun i => (Cert.KernelIdeal.Run.data m 0).scales (i 0), ?_, ?_⟩
  · refine Cert.KernelIdeal.Run.run m (Cert.KernelIdeal.Run.leaves (Cert.KernelIdeal.Run.data m 0))
      (Cert.KernelIdeal.Run.pointAt _ m (Cert.KernelIdeal.Run.holds m)) (fun _ _ => ⟨fun q hq => absurd hq (Nat.not_lt_zero _), fun h => absurd h (Nat.lt_irrefl _)⟩) g _ fun r hr c => ?_
    exact ⟨Cert.KernelIdeal.Run.final_h m _ r hr.1 c, Cert.KernelIdeal.Run.final_n m _ r hr.1 c, Cert.KernelIdeal.Run.final_ns m _ r hr.1 c,
      Cert.KernelIdeal.Run.rest m _ r hr.1 c⟩
  · refine (θ_run _ _ _).mono (fun r hr c => ?_) (Cert.ReferenceIdeal.Value.run_blocks m' g')
    obtain rfl : c = 0 := Subsingleton.elim _ _
    obtain ⟨k7, k8, k9, ks⟩ := hr 0
    refine ⟨k7.trans ((Cert.ReferenceIdeal.Pay.final_h m' 0).trans ?_), k8.trans ((Cert.ReferenceIdeal.Pay.final_n m' 0).trans ?_),
      k9.trans ((Cert.ReferenceIdeal.Pay.final_ns m' 0).trans ?_), ks⟩
    · rw [e]; rfl
    · rw [e]; rfl
    · rw [e]; rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelAny
public import proofs.«01_k».proof.Proof.KernelIdealAny
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel's frame: nothing is said of what the points leave. -/
theorem kernel_frame : Cert.quiescent_Kernel := fun m ρ _ =>
  Cert.Kernel.Run.run m Cert.Kernel.Run.any (Cert.Kernel.Run.pointRun m) (fun _ _ => trivial) ρ _
    fun r h => ⟨Cert.Kernel.Run.rest m _ r h.1, h.2⟩

/-- The idealized kernel's, likewise. -/
theorem ideal_frame : Cert.quiescent_KernelIdeal := fun m ρ _ =>
  Cert.KernelIdeal.Run.run m Cert.KernelIdeal.Run.any (Cert.KernelIdeal.Run.pointRun m) (fun _ _ => trivial) ρ _
    fun r h => ⟨Cert.KernelIdeal.Run.rest m _ r h.1, h.2⟩

theorem claim : Cert.Claim := ⟨Cert.Kernel.Gen.facts, Cert.KernelIdeal.Gen.facts, Cert.ReferenceIdeal.Gen.facts, by
  exact ⟨kernel_frame, ideal_frame, fun m ρ _ => Cert.ReferenceIdeal.Gen.frame m ρ, trivial, algebraic⟩⟩

end Cert.Proof

end
